-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 1024]⟩ ⟨2, ![8192, 1024]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![4096, 1024]⟩ ⟨2, ![4096, 8192]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![4096, 1024]⟩ ⟨2, ![4096, 8192]⟩ 1 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v120)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v120) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S256x1024 : Shape := ⟨2, ![256, 1024]⟩
abbrev S1024x1024 : Shape := ⟨2, ![1024, 1024]⟩
abbrev S4096x1024 : Shape := ⟨2, ![4096, 1024]⟩
abbrev S_ : Shape := ⟨0, ![]⟩

class Facts : Prop where
  bcast_S_S256x1024 : S_.BroadcastsInDim S256x1024 (![] : Fin 0 → Fin S256x1024.rank)
  reducesTo_S256x1024_S_d0_1 : S256x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn {F : FTy → Type} [FloatOps F] (main_arg0 : FVec F S256x1024 .bf16) (main_arg1 : FVec F S1024x1024 .bf16) (main_arg2 : FVec F S1024x1024 .bf16) (main_arg3 : FVec F S4096x1024 .bf16) (main_arg4 : FVec F S4096x1024 .bf16) : IVec S_ 1 :=
  let main_v0 : FVec F S256x1024 .bf16 := Host.absf main_arg0
  let main_cst : FVec F S_ .bf16 := constant S_ .bf16 0x7F80#16
  let main_v1 : FVec F S256x1024 .bf16 := broadcastInDim S256x1024 ![] bcast_S_S256x1024 main_cst
  let main_v2 : IVec S256x1024 1 := cmpf .olt main_v0 main_v1
  let main_c : IVec S_ 1 := constantI S_ 1 1#1
  let main_v3 : IVec S_ 1 := (fun x v => Host.reduce IntOp.andi x v reducesTo_S256x1024_S_d0_1 h_S_) main_v2 main_c
  let main_v4 : FVec F S1024x1024 .bf16 := Host.absf main_arg1
  let main_cst_0 : FVec F S_ .bf16 := constant S_ .bf16 0x7F80#16
  let main_v5 : FVec F S1024x1024 .bf16 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S4096x1024 .bf16 := Host.absf main_arg3
  let main_cst_2 : FVec F S_ .bf16 := constant S_ .bf16 0x7F80#16
  let main_v10 : FVec F S4096x1024 .bf16 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  main_v13
-- ==== Pre_finite_ReferenceIdeal.lean ====
abbrev S256x1024 : Shape := ⟨2, ![256, 1024]⟩
abbrev S1024x8192 : Shape := ⟨2, ![1024, 8192]⟩
abbrev S8192x1024 : Shape := ⟨2, ![8192, 1024]⟩
abbrev S4096x8192 : Shape := ⟨2, ![4096, 8192]⟩
abbrev S_ : Shape := ⟨0, ![]⟩

class Facts : Prop where
  bcast_S_S256x1024 : S_.BroadcastsInDim S256x1024 (![] : Fin 0 → Fin S256x1024.rank)
  reducesTo_S256x1024_S_d0_1 : S256x1024.ReducesTo [0, 1] S_
  h_S_ : 0 < S_.numel
  bcast_S_S1024x8192 : S_.BroadcastsInDim S1024x8192 (![] : Fin 0 → Fin S1024x8192.rank)
  reducesTo_S1024x8192_S_d0_1 : S1024x8192.ReducesTo [0, 1] S_
  bcast_S_S4096x8192 : S_.BroadcastsInDim S4096x8192 (![] : Fin 0 → Fin S4096x8192.rank)
  reducesTo_S4096x8192_S_d0_1 : S4096x8192.ReducesTo [0, 1] S_

variable [Facts]

def fn {F : FTy → Type} [FloatOps F] (main_arg0 : FVec F S256x1024 .bf16) (main_arg1 : FVec F S1024x8192 .bf16) (main_arg2 : FVec F S8192x1024 .bf16) (main_arg3 : FVec F S4096x8192 .bf16) (main_arg4 : FVec F S4096x8192 .bf16) : IVec S_ 1 :=
  let main_v0 : FVec F S256x1024 .bf16 := Host.absf main_arg0
  let main_cst : FVec F S_ .bf16 := constant S_ .bf16 0x7F80#16
  let main_v1 : FVec F S256x1024 .bf16 := broadcastInDim S256x1024 ![] bcast_S_S256x1024 main_cst
  let main_v2 : IVec S256x1024 1 := cmpf .olt main_v0 main_v1
  let main_c : IVec S_ 1 := constantI S_ 1 1#1
  let main_v3 : IVec S_ 1 := (fun x v => Host.reduce IntOp.andi x v reducesTo_S256x1024_S_d0_1 h_S_) main_v2 main_c
  let main_v4 : FVec F S1024x8192 .bf16 := Host.absf main_arg1
  let main_cst_0 : FVec F S_ .bf16 := constant S_ .bf16 0x7F80#16
  let main_v5 : FVec F S1024x8192 .bf16 := broadcastInDim S1024x8192 ![] bcast_S_S1024x8192 main_cst_0
  let main_v6 : IVec S1024x8192 1 := cmpf .olt main_v4 main_v5
  let main_c_1 : IVec S_ 1 := constantI S_ 1 1#1
  let main_v7 : IVec S_ 1 := (fun x v => Host.reduce IntOp.andi x v reducesTo_S1024x8192_S_d0_1 h_S_) main_v6 main_c_1
  let main_v8 : IVec S_ 1 := andi main_v3 main_v7
  let main_v9 : FVec F S4096x8192 .bf16 := Host.absf main_arg3
  let main_cst_2 : FVec F S_ .bf16 := constant S_ .bf16 0x7F80#16
  let main_v10 : FVec F S4096x8192 .bf16 := broadcastInDim S4096x8192 ![] bcast_S_S4096x8192 main_cst_2
  let main_v11 : IVec S4096x8192 1 := cmpf .olt main_v9 main_v10
  let main_c_3 : IVec S_ 1 := constantI S_ 1 1#1
  let main_v12 : IVec S_ 1 := (fun x v => Host.reduce IntOp.andi x v reducesTo_S4096x8192_S_d0_1 h_S_) main_v11 main_c_3
  let main_v13 : IVec S_ 1 := andi main_v8 main_v12
  main_v13
-- ==== Kernel.lean ====
abbrev S256x1024 : Shape := ⟨2, ![256, 1024]⟩
abbrev S1024x1024 : Shape := ⟨2, ![1024, 1024]⟩
abbrev S4096x1024 : Shape := ⟨2, ![4096, 1024]⟩
abbrev S7x256x128 : Shape := ⟨3, ![7, 256, 128]⟩
abbrev S256x128 : Shape := ⟨2, ![256, 128]⟩
abbrev S7 : Shape := ⟨1, ![7]⟩
abbrev S_ : Shape := ⟨0, ![]⟩
abbrev S4096x128 : Shape := ⟨2, ![4096, 128]⟩
abbrev S256x4096 : Shape := ⟨2, ![256, 4096]⟩
abbrev S256 : Shape := ⟨1, ![256]⟩
abbrev S256x1 : Shape := ⟨2, ![256, 1]⟩
abbrev S1024x128 : Shape := ⟨2, ![1024, 128]⟩
abbrev S1x256x128 : Shape := ⟨3, ![1, 256, 128]⟩
abbrev S1 : Shape := ⟨1, ![1]⟩

abbrev nBuf : Space → Nat
  | .hbm => 6
  | .vmem => 10
  | .smem => 0
  | _ => 0

abbrev bufTy : (tb : Table) → Fin (tcTables nBuf tb) → BufTy
  | .hbm, ⟨0, _⟩ => ⟨S256x1024, .bf16⟩
  | .hbm, ⟨1, _⟩ => ⟨S1024x1024, .bf16⟩
  | .hbm, ⟨2, _⟩ => ⟨S1024x1024, .bf16⟩
  | .hbm, ⟨3, _⟩ => ⟨S4096x1024, .bf16⟩
  | .hbm, ⟨4, _⟩ => ⟨S4096x1024, .bf16⟩
  | .hbm, ⟨5, _⟩ => ⟨S256x1024, .f32⟩
  | .local _ .vmem, ⟨0, _⟩ => ⟨S256x1024, .bf16⟩
  | .local _ .vmem, ⟨1, _⟩ => ⟨S1024x1024, .bf16⟩
  | .local _ .vmem, ⟨2, _⟩ => ⟨S1024x1024, .bf16⟩
  | .local _ .vmem, ⟨3, _⟩ => ⟨S4096x1024, .bf16⟩
  | .local _ .vmem, ⟨4, _⟩ => ⟨S4096x1024, .bf16⟩
  | .local _ .vmem, ⟨5, _⟩ => ⟨S256x1024, .f32⟩
  | .local _ .vmem, ⟨6, _⟩ => ⟨S7x256x128, .bf16⟩
  | .local _ .vmem, ⟨7, _⟩ => ⟨S256x128, .bf16⟩
  | .local _ .vmem, ⟨8, _⟩ => ⟨S7x256x128, .bf16⟩
  | .local _ .vmem, ⟨9, _⟩ => ⟨S7x256x128, .bf16⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 2 → Bool
  | ⟨0, _⟩ => false
  | ⟨1, _⟩ => true
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 2 34 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_off1 (d0 : Dev nD) (c1_i32_89 : BitVec 32) : Fin 2 → Nat :=
  let c0_91 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v167 : BitVec 32 := Scalar.addi v2 c1_i32_89
  let c8_i32_90 : BitVec 32 := 8#32
  let v168 : BitVec 32 := Scalar.remsi v167 c8_i32_90
  let c128_i32 : BitVec 32 := 128#32
  let v169 : BitVec 32 := Scalar.muli v168 c128_i32
  let v170 : Index := Scalar.indexCast v169
  ![0, v170.toNat]
def k0_dev8 (d0 : Dev nD) : Nat :=
  let c0_i32_101 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_89 : BitVec 32 := 1#32
  let v167 : BitVec 32 := Scalar.addi v2 c1_i32_89
  let c8_i32_90 : BitVec 32 := 8#32
  let v168 : BitVec 32 := Scalar.remsi v167 c8_i32_90
  let c1_i32_100 : BitVec 32 := 1#32
  let v178 : BitVec 32 := Scalar.muli v168 c1_i32_100
  let v179 : BitVec 32 := Scalar.addi c0_i32_101 v178
  v179.toNat
def k0_dev9 (d0 : Dev nD) : Nat :=
  let c0_i32_118 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_106 : BitVec 32 := 2#32
  let v188 : BitVec 32 := Scalar.addi v2 c2_i32_106
  let c8_i32_107 : BitVec 32 := 8#32
  let v189 : BitVec 32 := Scalar.remsi v188 c8_i32_107
  let c1_i32_117 : BitVec 32 := 1#32
  let v199 : BitVec 32 := Scalar.muli v189 c1_i32_117
  let v200 : BitVec 32 := Scalar.addi c0_i32_118 v199
  v200.toNat
def k0_dev10 (d0 : Dev nD) : Nat :=
  let c0_i32_135 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_123 : BitVec 32 := 3#32
  let v209 : BitVec 32 := Scalar.addi v2 c3_i32_123
  let c8_i32_124 : BitVec 32 := 8#32
  let v210 : BitVec 32 := Scalar.remsi v209 c8_i32_124
  let c1_i32_134 : BitVec 32 := 1#32
  let v220 : BitVec 32 := Scalar.muli v210 c1_i32_134
  let v221 : BitVec 32 := Scalar.addi c0_i32_135 v220
  v221.toNat
def k0_dev11 (d0 : Dev nD) : Nat :=
  let c0_i32_152 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_140 : BitVec 32 := 4#32
  let v230 : BitVec 32 := Scalar.addi v2 c4_i32_140
  let c8_i32_141 : BitVec 32 := 8#32
  let v231 : BitVec 32 := Scalar.remsi v230 c8_i32_141
  let c1_i32_151 : BitVec 32 := 1#32
  let v241 : BitVec 32 := Scalar.muli v231 c1_i32_151
  let v242 : BitVec 32 := Scalar.addi c0_i32_152 v241
  v242.toNat
def k0_dev12 (d0 : Dev nD) : Nat :=
  let c0_i32_169 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_157 : BitVec 32 := 5#32
  let v251 : BitVec 32 := Scalar.addi v2 c5_i32_157
  let c8_i32_158 : BitVec 32 := 8#32
  let v252 : BitVec 32 := Scalar.remsi v251 c8_i32_158
  let c1_i32_168 : BitVec 32 := 1#32
  let v262 : BitVec 32 := Scalar.muli v252 c1_i32_168
  let v263 : BitVec 32 := Scalar.addi c0_i32_169 v262
  v263.toNat
def k0_dev13 (d0 : Dev nD) : Nat :=
  let c0_i32_186 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_174 : BitVec 32 := 6#32
  let v272 : BitVec 32 := Scalar.addi v2 c6_i32_174
  let c8_i32_175 : BitVec 32 := 8#32
  let v273 : BitVec 32 := Scalar.remsi v272 c8_i32_175
  let c1_i32_185 : BitVec 32 := 1#32
  let v283 : BitVec 32 := Scalar.muli v273 c1_i32_185
  let v284 : BitVec 32 := Scalar.addi c0_i32_186 v283
  v284.toNat
def k0_dev14 (d0 : Dev nD) : Nat :=
  let c0_i32_203 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_191 : BitVec 32 := 7#32
  let v293 : BitVec 32 := Scalar.addi v2 c7_i32_191
  let c8_i32_192 : BitVec 32 := 8#32
  let v294 : BitVec 32 := Scalar.remsi v293 c8_i32_192
  let c1_i32_202 : BitVec 32 := 1#32
  let v304 : BitVec 32 := Scalar.muli v294 c1_i32_202
  let v305 : BitVec 32 := Scalar.addi c0_i32_203 v304
  v305.toNat
def k0_off2 (d0 : Dev nD) : Fin 2 → Nat :=
  let c0_209 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_208 : BitVec 32 := 128#32
  let v314 : BitVec 32 := Scalar.muli v2 c128_i32_208
  let v315 : Index := Scalar.indexCast v314
  ![0, v315.toNat]
def k0_off3 (d0 : Dev nD) : Fin 2 → Nat :=
  let c0_303 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_302 : BitVec 32 := 128#32
  let v403 : BitVec 32 := Scalar.muli v2 c128_i32_302
  let v404 : Index := Scalar.indexCast v403
  ![0, v404.toNat]
def k0_dev15 (d0 : Dev nD) : Nat :=
  let c0_i32_312 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_306 : BitVec 32 := 1#32
  let v410 : BitVec 32 := Scalar.addi v2 c1_i32_306
  let c8_i32_307 : BitVec 32 := 8#32
  let v411 : BitVec 32 := Scalar.remsi v410 c8_i32_307
  let c1_i32_311 : BitVec 32 := 1#32
  let v412 : BitVec 32 := Scalar.muli v411 c1_i32_311
  let v413 : BitVec 32 := Scalar.addi c0_i32_312 v412
  v413.toNat
def k0_dev16 (d0 : Dev nD) : Nat :=
  let c0_i32_321 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_315 : BitVec 32 := 2#32
  let v420 : BitVec 32 := Scalar.addi v2 c2_i32_315
  let c8_i32_316 : BitVec 32 := 8#32
  let v421 : BitVec 32 := Scalar.remsi v420 c8_i32_316
  let c1_i32_320 : BitVec 32 := 1#32
  let v422 : BitVec 32 := Scalar.muli v421 c1_i32_320
  let v423 : BitVec 32 := Scalar.addi c0_i32_321 v422
  v423.toNat
def k0_dev17 (d0 : Dev nD) : Nat :=
  let c0_i32_330 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_324 : BitVec 32 := 3#32
  let v430 : BitVec 32 := Scalar.addi v2 c3_i32_324
  let c8_i32_325 : BitVec 32 := 8#32
  let v431 : BitVec 32 := Scalar.remsi v430 c8_i32_325
  let c1_i32_329 : BitVec 32 := 1#32
  let v432 : BitVec 32 := Scalar.muli v431 c1_i32_329
  let v433 : BitVec 32 := Scalar.addi c0_i32_330 v432
  v433.toNat
def k0_dev18 (d0 : Dev nD) : Nat :=
  let c0_i32_339 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_333 : BitVec 32 := 4#32
  let v440 : BitVec 32 := Scalar.addi v2 c4_i32_333
  let c8_i32_334 : BitVec 32 := 8#32
  let v441 : BitVec 32 := Scalar.remsi v440 c8_i32_334
  let c1_i32_338 : BitVec 32 := 1#32
  let v442 : BitVec 32 := Scalar.muli v441 c1_i32_338
  let v443 : BitVec 32 := Scalar.addi c0_i32_339 v442
  v443.toNat
def k0_dev19 (d0 : Dev nD) : Nat :=
  let c0_i32_348 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_342 : BitVec 32 := 5#32
  let v450 : BitVec 32 := Scalar.addi v2 c5_i32_342
  let c8_i32_343 : BitVec 32 := 8#32
  let v451 : BitVec 32 := Scalar.remsi v450 c8_i32_343
  let c1_i32_347 : BitVec 32 := 1#32
  let v452 : BitVec 32 := Scalar.muli v451 c1_i32_347
  let v453 : BitVec 32 := Scalar.addi c0_i32_348 v452
  v453.toNat
def k0_dev20 (d0 : Dev nD) : Nat :=
  let c0_i32_357 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_351 : BitVec 32 := 6#32
  let v460 : BitVec 32 := Scalar.addi v2 c6_i32_351
  let c8_i32_352 : BitVec 32 := 8#32
  let v461 : BitVec 32 := Scalar.remsi v460 c8_i32_352
  let c1_i32_356 : BitVec 32 := 1#32
  let v462 : BitVec 32 := Scalar.muli v461 c1_i32_356
  let v463 : BitVec 32 := Scalar.addi c0_i32_357 v462
  v463.toNat
def k0_dev21 (d0 : Dev nD) : Nat :=
  let c0_i32_366 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_360 : BitVec 32 := 7#32
  let v470 : BitVec 32 := Scalar.addi v2 c7_i32_360
  let c8_i32_361 : BitVec 32 := 8#32
  let v471 : BitVec 32 := Scalar.remsi v470 c8_i32_361
  let c1_i32_365 : BitVec 32 := 1#32
  let v472 : BitVec 32 := Scalar.muli v471 c1_i32_365
  let v473 : BitVec 32 := Scalar.addi c0_i32_366 v472
  v473.toNat
def k0_off4 (d0 : Dev nD) (c1_i32_377 : BitVec 32) : Fin 2 → Nat :=
  let c0_383 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_376 : BitVec 32 := 8#32
  let v486 : BitVec 32 := Scalar.addi v2 c8_i32_376
  let v487 : BitVec 32 := Scalar.subi v486 c1_i32_377
  let c8_i32_378 : BitVec 32 := 8#32
  let v488 : BitVec 32 := Scalar.remsi v487 c8_i32_378
  let c128_i32_382 : BitVec 32 := 128#32
  let v492 : BitVec 32 := Scalar.muli v488 c128_i32_382
  let v493 : Index := Scalar.indexCast v492
  ![0, v493.toNat]
def k0_dev22 (d0 : Dev nD) : Nat :=
  let c0_i32_583_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_579_r0 : BitVec 32 := 1#32
  let v656_r0 : BitVec 32 := Scalar.addi v2 c1_i32_579_r0
  let c8_i32_580_r0 : BitVec 32 := 8#32
  let v657_r0 : BitVec 32 := Scalar.remsi v656_r0 c8_i32_580_r0
  let c1_i32_582_r0 : BitVec 32 := 1#32
  let v658_r0 : BitVec 32 := Scalar.muli v657_r0 c1_i32_582_r0
  let v659_r0 : BitVec 32 := Scalar.addi c0_i32_583_r0 v658_r0
  v659_r0.toNat
def k0_dev23 (d0 : Dev nD) : Nat :=
  let c0_i32_588_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_584_r0 : BitVec 32 := 2#32
  let v660_r0 : BitVec 32 := Scalar.addi v2 c2_i32_584_r0
  let c8_i32_585_r0 : BitVec 32 := 8#32
  let v661_r0 : BitVec 32 := Scalar.remsi v660_r0 c8_i32_585_r0
  let c1_i32_587_r0 : BitVec 32 := 1#32
  let v662_r0 : BitVec 32 := Scalar.muli v661_r0 c1_i32_587_r0
  let v663_r0 : BitVec 32 := Scalar.addi c0_i32_588_r0 v662_r0
  v663_r0.toNat
def k0_dev24 (d0 : Dev nD) : Nat :=
  let c0_i32_593_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_589_r0 : BitVec 32 := 3#32
  let v664_r0 : BitVec 32 := Scalar.addi v2 c3_i32_589_r0
  let c8_i32_590_r0 : BitVec 32 := 8#32
  let v665_r0 : BitVec 32 := Scalar.remsi v664_r0 c8_i32_590_r0
  let c1_i32_592_r0 : BitVec 32 := 1#32
  let v666_r0 : BitVec 32 := Scalar.muli v665_r0 c1_i32_592_r0
  let v667_r0 : BitVec 32 := Scalar.addi c0_i32_593_r0 v666_r0
  v667_r0.toNat
def k0_dev25 (d0 : Dev nD) : Nat :=
  let c0_i32_598_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_594_r0 : BitVec 32 := 4#32
  let v668_r0 : BitVec 32 := Scalar.addi v2 c4_i32_594_r0
  let c8_i32_595_r0 : BitVec 32 := 8#32
  let v669_r0 : BitVec 32 := Scalar.remsi v668_r0 c8_i32_595_r0
  let c1_i32_597_r0 : BitVec 32 := 1#32
  let v670_r0 : BitVec 32 := Scalar.muli v669_r0 c1_i32_597_r0
  let v671_r0 : BitVec 32 := Scalar.addi c0_i32_598_r0 v670_r0
  v671_r0.toNat
def k0_dev26 (d0 : Dev nD) : Nat :=
  let c0_i32_603_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_599_r0 : BitVec 32 := 5#32
  let v672_r0 : BitVec 32 := Scalar.addi v2 c5_i32_599_r0
  let c8_i32_600_r0 : BitVec 32 := 8#32
  let v673_r0 : BitVec 32 := Scalar.remsi v672_r0 c8_i32_600_r0
  let c1_i32_602_r0 : BitVec 32 := 1#32
  let v674_r0 : BitVec 32 := Scalar.muli v673_r0 c1_i32_602_r0
  let v675_r0 : BitVec 32 := Scalar.addi c0_i32_603_r0 v674_r0
  v675_r0.toNat
def k0_dev27 (d0 : Dev nD) : Nat :=
  let c0_i32_608_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_604_r0 : BitVec 32 := 6#32
  let v676_r0 : BitVec 32 := Scalar.addi v2 c6_i32_604_r0
  let c8_i32_605_r0 : BitVec 32 := 8#32
  let v677_r0 : BitVec 32 := Scalar.remsi v676_r0 c8_i32_605_r0
  let c1_i32_607_r0 : BitVec 32 := 1#32
  let v678_r0 : BitVec 32 := Scalar.muli v677_r0 c1_i32_607_r0
  let v679_r0 : BitVec 32 := Scalar.addi c0_i32_608_r0 v678_r0
  v679_r0.toNat
def k0_dev28 (d0 : Dev nD) : Nat :=
  let c0_i32_613_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_609_r0 : BitVec 32 := 7#32
  let v680_r0 : BitVec 32 := Scalar.addi v2 c7_i32_609_r0
  let c8_i32_610_r0 : BitVec 32 := 8#32
  let v681_r0 : BitVec 32 := Scalar.remsi v680_r0 c8_i32_610_r0
  let c1_i32_612_r0 : BitVec 32 := 1#32
  let v682_r0 : BitVec 32 := Scalar.muli v681_r0 c1_i32_612_r0
  let v683_r0 : BitVec 32 := Scalar.addi c0_i32_613_r0 v682_r0
  v683_r0.toNat
abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S256x1024 : Shape := ⟨2, ![256, 1024]⟩
abbrev S1024x8192 : Shape := ⟨2, ![1024, 8192]⟩
abbrev S8192x1024 : Shape := ⟨2, ![8192, 1024]⟩
abbrev S4096x8192 : Shape := ⟨2, ![4096, 8192]⟩
abbrev S1x256x1024 : Shape := ⟨3, ![1, 256, 1024]⟩
abbrev S1x4096x64x128 : Shape := ⟨4, ![1, 4096, 64, 128]⟩
abbrev S1x256x8192 : Shape := ⟨3, ![1, 256, 8192]⟩
abbrev S1x256x64x128 : Shape := ⟨4, ![1, 256, 64, 128]⟩
abbrev S_ : Shape := ⟨0, ![]⟩
abbrev S1x64x256x1 : Shape := ⟨4, ![1, 64, 256, 1]⟩
abbrev S1x1024x64x128 : Shape := ⟨4, ![1, 1024, 64, 128]⟩
abbrev S1x64x256x1024 : Shape := ⟨4, ![1, 64, 256, 1024]⟩
abbrev S1x64x256 : Shape := ⟨3, ![1, 64, 256]⟩
abbrev S1x256x64x1 : Shape := ⟨4, ![1, 256, 64, 1]⟩
abbrev S1x64x128x256 : Shape := ⟨4, ![1, 64, 128, 256]⟩

abbrev nBuf : Space → Nat
  | .hbm => 141
  | .vmem => 0
  | .smem => 0
  | _ => 0

abbrev hbmTy0_0 (i : Nat) : BufTy := match i % 128 with
  | 0 => ⟨S256x1024, .bf16⟩
  | 1 => ⟨S1024x8192, .bf16⟩
  | 2 => ⟨S8192x1024, .bf16⟩
  | 3 => ⟨S4096x8192, .bf16⟩
  | 4 => ⟨S4096x8192, .bf16⟩
  | 5 => ⟨S1x256x1024, .bf16⟩
  | 6 => ⟨S1x256x1024, .f32⟩
  | 7 => ⟨S1x4096x64x128, .bf16⟩
  | 8 => ⟨S1x4096x64x128, .f32⟩
  | 9 => ⟨S1x4096x64x128, .bf16⟩
  | 10 => ⟨S1x4096x64x128, .f32⟩
  | 11 => ⟨S1024x8192, .f32⟩
  | 12 => ⟨S1x256x8192, .f32⟩
  | 13 => ⟨S1x256x8192, .bf16⟩
  | 14 => ⟨S1x256x8192, .f32⟩
  | 15 => ⟨S1x256x64x128, .f32⟩
  | 16 => ⟨S_, .f32⟩
  | 17 => ⟨S1x256x64x128, .f32⟩
  | 18 => ⟨S_, .f32⟩
  | 19 => ⟨S1x64x256x1, .f32⟩
  | 20 => ⟨S_, .f32⟩
  | 21 => ⟨S1x64x256x1, .f32⟩
  | 22 => ⟨S1x1024x64x128, .f32⟩
  | 23 => ⟨S1x1024x64x128, .f32⟩
  | 24 => ⟨S1x64x256x1024, .f32⟩
  | 25 => ⟨S1x64x256x1024, .bf16⟩
  | 26 => ⟨S1x64x256x1024, .f32⟩
  | 27 => ⟨S_, .f32⟩
  | 28 => ⟨S1x64x256x1024, .f32⟩
  | 29 => ⟨S1x64x256x1024, .f32⟩
  | 30 => ⟨S_, .f32⟩
  | 31 => ⟨S1x64x256, .f32⟩
  | 32 => ⟨S1x64x256x1, .f32⟩
  | 33 => ⟨S1x64x256x1, .f32⟩
  | 34 => ⟨S1x64x256x1, .f32⟩
  | 35 => ⟨S1x64x256x1, .f32⟩
  | 36 => ⟨S1x64x256x1024, .f32⟩
  | 37 => ⟨S1x64x256x1024, .f32⟩
  | 38 => ⟨S1x64x256x1024, .f32⟩
  | 39 => ⟨S1x64x256x1, .f32⟩
  | 40 => ⟨S_, .f32⟩
  | 41 => ⟨S1x64x256, .f32⟩
  | 42 => ⟨S1x64x256x1, .f32⟩
  | 43 => ⟨S1x64x256x1, .f32⟩
  | 44 => ⟨S1x256x64x1, .f32⟩
  | 45 => ⟨S1x256x64x128, .f32⟩
  | 46 => ⟨S1x256x64x128, .f32⟩
  | 47 => ⟨S1x64x128x256, .f32⟩
  | 48 => ⟨S1x256x64x128, .f32⟩
  | 49 => ⟨S1x256x64x128, .f32⟩
  | 50 => ⟨S1x1024x64x128, .f32⟩
  | 51 => ⟨S1x1024x64x128, .f32⟩
  | 52 => ⟨S1x64x256x1024, .f32⟩
  | 53 => ⟨S1x64x256x1024, .bf16⟩
  | 54 => ⟨S1x64x256x1024, .f32⟩
  | 55 => ⟨S_, .f32⟩
  | 56 => ⟨S1x64x256x1024, .f32⟩
  | 57 => ⟨S1x64x256x1024, .f32⟩
  | 58 => ⟨S_, .f32⟩
  | 59 => ⟨S1x64x256, .f32⟩
  | 60 => ⟨S1x64x256x1, .f32⟩
  | 61 => ⟨S1x64x256x1, .f32⟩
  | 62 => ⟨S1x64x256x1, .f32⟩
  | 63 => ⟨S1x64x256x1, .f32⟩
  | 64 => ⟨S1x64x256x1024, .f32⟩
  | 65 => ⟨S1x64x256x1024, .f32⟩
  | 66 => ⟨S1x64x256x1024, .f32⟩
  | 67 => ⟨S1x64x256x1, .f32⟩
  | 68 => ⟨S_, .f32⟩
  | 69 => ⟨S1x64x256, .f32⟩
  | 70 => ⟨S1x64x256x1, .f32⟩
  | 71 => ⟨S1x64x256x1, .f32⟩
  | 72 => ⟨S1x256x64x1, .f32⟩
  | 73 => ⟨S1x256x64x128, .f32⟩
  | 74 => ⟨S1x256x64x128, .f32⟩
  | 75 => ⟨S1x64x128x256, .f32⟩
  | 76 => ⟨S1x256x64x128, .f32⟩
  | 77 => ⟨S1x256x64x128, .f32⟩
  | 78 => ⟨S1x1024x64x128, .f32⟩
  | 79 => ⟨S1x1024x64x128, .f32⟩
  | 80 => ⟨S1x64x256x1024, .f32⟩
  | 81 => ⟨S1x64x256x1024, .bf16⟩
  | 82 => ⟨S1x64x256x1024, .f32⟩
  | 83 => ⟨S_, .f32⟩
  | 84 => ⟨S1x64x256x1024, .f32⟩
  | 85 => ⟨S1x64x256x1024, .f32⟩
  | 86 => ⟨S_, .f32⟩
  | 87 => ⟨S1x64x256, .f32⟩
  | 88 => ⟨S1x64x256x1, .f32⟩
  | 89 => ⟨S1x64x256x1, .f32⟩
  | 90 => ⟨S1x64x256x1, .f32⟩
  | 91 => ⟨S1x64x256x1, .f32⟩
  | 92 => ⟨S1x64x256x1024, .f32⟩
  | 93 => ⟨S1x64x256x1024, .f32⟩
  | 94 => ⟨S1x64x256x1024, .f32⟩
  | 95 => ⟨S1x64x256x1, .f32⟩
  | 96 => ⟨S_, .f32⟩
  | 97 => ⟨S1x64x256, .f32⟩
  | 98 => ⟨S1x64x256x1, .f32⟩
  | 99 => ⟨S1x64x256x1, .f32⟩
  | 100 => ⟨S1x256x64x1, .f32⟩
  | 101 => ⟨S1x256x64x128, .f32⟩
  | 102 => ⟨S1x256x64x128, .f32⟩
  | 103 => ⟨S1x64x128x256, .f32⟩
  | 104 => ⟨S1x256x64x128, .f32⟩
  | 105 => ⟨S1x256x64x128, .f32⟩
  | 106 => ⟨S1x1024x64x128, .f32⟩
  | 107 => ⟨S1x1024x64x128, .f32⟩
  | 108 => ⟨S1x64x256x1024, .f32⟩
  | 109 => ⟨S1x64x256x1024, .bf16⟩
  | 110 => ⟨S1x64x256x1024, .f32⟩
  | 111 => ⟨S_, .f32⟩
  | 112 => ⟨S1x64x256x1024, .f32⟩
  | 113 => ⟨S1x64x256x1024, .f32⟩
  | 114 => ⟨S_, .f32⟩
  | 115 => ⟨S1x64x256, .f32⟩
  | 116 => ⟨S1x64x256x1, .f32⟩
  | 117 => ⟨S1x64x256x1, .f32⟩
  | 118 => ⟨S1x64x256x1, .f32⟩
  | 119 => ⟨S1x64x256x1, .f32⟩
  | 120 => ⟨S1x64x256x1024, .f32⟩
  | 121 => ⟨S1x64x256x1024, .f32⟩
  | 122 => ⟨S1x64x256x1024, .f32⟩
  | 123 => ⟨S1x64x256x1, .f32⟩
  | 124 => ⟨S_, .f32⟩
  | 125 => ⟨S1x64x256, .f32⟩
  | 126 => ⟨S1x64x256x1, .f32⟩
  | 127 => ⟨S1x64x256x1, .f32⟩
  | _ => ⟨S256x1024, .bf16⟩

abbrev hbmTy0_1 (i : Nat) : BufTy := match i % 128 with
  | 0 => ⟨S1x256x64x1, .f32⟩
  | 1 => ⟨S1x256x64x128, .f32⟩
  | 2 => ⟨S1x256x64x128, .f32⟩
  | 3 => ⟨S1x64x128x256, .f32⟩
  | 4 => ⟨S1x256x64x128, .f32⟩
  | 5 => ⟨S1x256x64x128, .f32⟩
  | 6 => ⟨S1x256x64x1, .f32⟩
  | 7 => ⟨S1x256x64x128, .f32⟩
  | 8 => ⟨S1x256x64x128, .f32⟩
  | 9 => ⟨S1x256x8192, .f32⟩
  | 10 => ⟨S8192x1024, .f32⟩
  | 11 => ⟨S1x256x1024, .f32⟩
  | 12 => ⟨S256x1024, .f32⟩
  | _ => ⟨S256x1024, .bf16⟩

abbrev hbmTy (i : Nat) : BufTy := match i / 128 with
  | 0 => hbmTy0_0 i
  | 1 => hbmTy0_1 i
  | _ => ⟨S256x1024, .bf16⟩

abbrev bufTy : (tb : Table) → Fin (tcTables nBuf tb) → BufTy
  | .hbm, ⟨i, _⟩ => hbmTy i
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_5 : Ref sig .tc := ⟨.hbm, 55, rfl⟩
abbrev main_v44 : Ref sig .tc := ⟨.hbm, 56, rfl⟩
abbrev main_v45 : Ref sig .tc := ⟨.hbm, 57, rfl⟩
abbrev main_cst_6 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_cst_7 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_cst_8 : Ref sig .tc := ⟨.hbm, 83, rfl⟩
abbrev main_v69 : Ref sig .tc := ⟨.hbm, 84, rfl⟩
abbrev main_v70 : Ref sig .tc := ⟨.hbm, 85, rfl⟩
abbrev main_cst_9 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_cst_10 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_cst_11 : Ref sig .tc := ⟨.hbm, 111, rfl⟩
abbrev main_v94 : Ref sig .tc := ⟨.hbm, 112, rfl⟩
abbrev main_v95 : Ref sig .tc := ⟨.hbm, 113, rfl⟩
abbrev main_cst_12 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_cst_13 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩

abbrev nD : Nat := 1
abbrev τ : Topo := Topo.v7x

variable {F : FTy → Type} [FloatOps F]
-- ==== Proof.Protocol.lean ====
/-
# 01_k — the protocol of the two exchanges, stated as a rounds schedule

Eight devices, every pair exchanging. `nxt j c` is the device `j + 1` places after `c`, `prv j c` the one `j + 1` places
before it. The cells of device `c`, all used for one round:

* its barrier cell, seven duties of one unit. Duty `j` is paid by `prv j c` and hands `c` the two landing slots on that
  device which `c` will write — slot `6 - j` of the first exchange and of the second;
* for each `j`, the send cell of its `j`-th transfer of the first exchange (handing back the slot of the send buffer) and
  its `j`-th receive cell, paid by `prv j c` (handing over the landing slot with `prv j c`'s product of its heads with the
  columns of the output projection that are `c`'s);
* the same for the second exchange, where the source is the reduced block: one buffer read by seven transfers, each at its
  own share of it;
* its exit cell, seven duties of one unit that hand over nothing.

A device first raises the seven barriers, then pays the first exchange, then the second, then the seven exits; what it waits
for is always of an earlier level than what it still owes: barrier 1, first exchange 2, second exchange 3, exit 4.
-/
module

public import proofs.«01_k».proof.Proof.Gen.KernelIdeal
public import proofs.«01_k».proof.Proof.Gen.KernelIdeal.Skeleton
public import proofs.«01_k».proof.Proof.Gen.KernelIdeal.Points
public import proofs.«01_k».proof.Proof.Gen.KernelIdeal.Launch
public import proofs.«01_k».proof.Proof.Gen.KernelIdeal.Frame
public import Idealize.ShloMosaic.Lib.Pipeline.Launch
public import Idealize.ShloMosaic.Lib.Pipeline.Kit
public import Idealize.ShloMosaic.Lib.MemrefSat
public import Idealize.ShloMosaic.Lib.ViewIndex
public import Idealize.ShloMosaic.Lib.Tactic
public import Mathlib.Algebra.BigOperators.Intervals

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every counter zero. -/
def s₀ : MemSt nD τ sig (Elt F) := ⟨m, fun _ => 0, ρ⟩

/-! ## The devices -/

set_option backward.proofsInPublic true in
def nxt (j : Fin 7) (c : Dev nD) : Dev nD := ⟨(c.val + (j.val + 1)) % 8, Nat.mod_lt _ (by decide)⟩
set_option backward.proofsInPublic true in
def prv (j : Fin 7) (c : Dev nD) : Dev nD := ⟨((c.val + 7) - j.val) % 8, Nat.mod_lt _ (by decide)⟩
set_option backward.proofsInPublic true in
/-- The index under which the other end of a pair counts the pair. -/
def opp (j : Fin 7) : Fin 7 := ⟨6 - j.val, by omega⟩

theorem prv_nxt (j : Fin 7) (c : Dev nD) : prv j (nxt j c) = c := by revert j c; decide
theorem nxt_prv (j : Fin 7) (c : Dev nD) : nxt j (prv j c) = c := by revert j c; decide
theorem nxt_opp (j : Fin 7) (c : Dev nD) : nxt (opp j) (nxt j c) = c := by revert j c; decide
theorem opp_opp (j : Fin 7) : opp (opp j) = j := by revert j; decide
theorem nxt_ne (j : Fin 7) (c : Dev nD) : nxt j c ≠ c := by revert j c; decide
theorem prv_ne (j : Fin 7) (c : Dev nD) : prv j c ≠ c := by revert j c; decide

def turn (j : Fin 7) : Dev nD ≃ Dev nD := ⟨nxt j, prv j, prv_nxt j, nxt_prv j⟩
def oppE : Fin 7 ≃ Fin 7 := ⟨opp, opp, opp_opp, opp_opp⟩

/-! ## The memrefs -/

abbrev outM : Memref sig .tc .vmem S256x1024 .f32 := Memref.whole cc0_stg5_0
abbrev sndM : Memref sig .tc .vmem S7x256x128 .bf16 := Memref.whole cc0_scratch0
abbrev redM : Memref sig .tc .vmem S256x128 .bf16 := Memref.whole cc0_scratch1
abbrev lndM : Memref sig .tc .vmem S7x256x128 .bf16 := Memref.whole cc0_scratch2
abbrev gatM : Memref sig .tc .vmem S7x256x128 .bf16 := Memref.whole cc0_scratch3

theorem slot_inb (j : Fin 7) : ∀ a, (![j.val, 0, 0] : Fin 3 → ℕ) a + S1x256x128.size a ≤ S7x256x128.size a := by revert j; decide
theorem col_inb (k : Dev nD) : ∀ a, (![0, 128 * k.val] : Fin 2 → ℕ) a + S256x128.size a ≤ S256x1024.size a := by revert k; decide
theorem wcol_inb (k : Dev nD) : ∀ a, (![0, 128 * k.val] : Fin 2 → ℕ) a + S1024x128.size a ≤ S1024x1024.size a := by revert k; decide

abbrev slotR (j : Fin 7) : Rect S7x256x128 := Rect.unit (s := S7x256x128) ![j.val, 0, 0] S1x256x128.size (slot_inb j)
abbrev colR (k : Dev nD) : Rect S256x1024 := Rect.unit (s := S256x1024) ![0, 128 * k.val] S256x128.size (col_inb k)

/-- Slot `j` of a buffer of seven. -/
abbrev slot (M : Memref sig .tc .vmem S7x256x128 .bf16) (j : Fin 7) : Memref sig .tc .vmem S1x256x128 .bf16 :=
  M.slice (slotR j) (fun _ => rfl)
/-- The same with the axis of length one dropped, as the transfers name it. -/
abbrev slotQ (M : Memref sig .tc .vmem S7x256x128 .bf16) (j : Fin 7) : Memref sig .tc .vmem S256x128 .bf16 :=
  (slot M j).squeeze S256x128 squeezes_S1x256x128_S256x128
/-- The columns of the result that device `k` reduces. -/
abbrev colM (k : Dev nD) : Memref sig .tc .vmem S256x128 .f32 := outM.slice (colR k) (fun _ => rfl)

/-- A block given the leading axis of length one. -/
def lead (X : S256x128.Idx → Elt F .bf16) : S1x256x128.Idx → Elt F .bf16 :=
  fun x => X ((Shape.reshapeEquiv squeezes_S1x256x128_S256x128.numel_eq).symm x)

/-! ## The contents -/

/-- What an input window stages on device `c`. -/
abbrev stg0 (c : Dev nD) : (cc0_stg0_0 : Ref sig .tc).ty.Contents (Elt F) := iblk m c 0 t0_0
abbrev stg1 (c : Dev nD) : (cc0_stg1_0 : Ref sig .tc).ty.Contents (Elt F) := iblk m c 1 t0_0
abbrev stg2 (c : Dev nD) : (cc0_stg2_0 : Ref sig .tc).ty.Contents (Elt F) := iblk m c 2 t0_0
abbrev stg3 (c : Dev nD) : (cc0_stg3_0 : Ref sig .tc).ty.Contents (Elt F) := iblk m c 3 t0_0
abbrev stg4 (c : Dev nD) : (cc0_stg4_0 : Ref sig .tc).ty.Contents (Elt F) := iblk m c 4 t0_0

abbrev xv (c : Dev nD) : Vec F S256x1024 .bf16 :=
  (Memref.whole cc0_stg0_0 : Memref sig .tc .vmem S256x1024 .bf16).view.readAt (Elt F) (Rect.unit (s := S256x1024) ![0, 0] S256x1024.size inb_S256x1024_S256x1024_0_0).toLoadRect (stg0 m c)
abbrev wqv (c : Dev nD) : Vec F S1024x1024 .bf16 :=
  (Memref.whole cc0_stg1_0 : Memref sig .tc .vmem S1024x1024 .bf16).view.readAt (Elt F) (Rect.unit (s := S1024x1024) ![0, 0] S1024x1024.size inb_S1024x1024_S1024x1024_0_0).toLoadRect (stg1 m c)
/-- The 128 columns from `o` of `K`'s block, of `V`'s block. -/
abbrev kv (c : Dev nD) (o : ℕ) (h : ∀ a, (![0, o] : Fin 2 → ℕ) a + S4096x128.size a ≤ S4096x1024.size a) : Vec F S4096x128 .bf16 :=
  (Memref.whole cc0_stg3_0 : Memref sig .tc .vmem S4096x1024 .bf16).view.readAt (Elt F) (Rect.unit (s := S4096x1024) ![0, o] S4096x128.size h).toLoadRect (stg3 m c)
abbrev vv (c : Dev nD) (o : ℕ) (h : ∀ a, (![0, o] : Fin 2 → ℕ) a + S4096x128.size a ≤ S4096x1024.size a) : Vec F S4096x128 .bf16 :=
  (Memref.whole cc0_stg4_0 : Memref sig .tc .vmem S4096x1024 .bf16).view.readAt (Elt F) (Rect.unit (s := S4096x1024) ![0, o] S4096x128.size h).toLoadRect (stg4 m c)
/-- The columns of device `c`'s rows of the output projection that are device `k`'s. -/
def wov (c k : Dev nD) : Vec F S1024x128 .bf16 :=
  (Memref.whole cc0_stg2_0 : Memref sig .tc .vmem S1024x1024 .bf16).view.readAt (Elt F) (Rect.unit (s := S1024x1024) ![0, 128 * k.val] S1024x128.size (wcol_inb k)).toLoadRect (stg2 m c)

/-- Device `c`'s eight heads side by side. -/
def heads (c : Dev nD) : FVec F S256x1024 .bf16 :=
  k0_pay12 (k0_pay1 (xv m c) (wqv m c))
    (k0_pay2 (xv m c) (wqv m c) (kv m c 0 inb_S4096x1024_S4096x128_0_0) (vv m c 0 inb_S4096x1024_S4096x128_0_0))
    (k0_pay4 (k0_pay3 (xv m c) (wqv m c)) (kv m c 128 inb_S4096x1024_S4096x128_0_128) (vv m c 128 inb_S4096x1024_S4096x128_0_128))
    (k0_pay5 (k0_pay1 (xv m c) (wqv m c)) (kv m c 256 inb_S4096x1024_S4096x128_0_256) (vv m c 256 inb_S4096x1024_S4096x128_0_256))
    (k0_pay8 (k0_pay6 (k0_pay1 (xv m c) (wqv m c)) (kv m c 384 inb_S4096x1024_S4096x128_0_384))
      (k0_pay7 (k0_pay1 (xv m c) (wqv m c)) (kv m c 384 inb_S4096x1024_S4096x128_0_384)) (vv m c 384 inb_S4096x1024_S4096x128_0_384))
    (k0_pay9 (k0_pay1 (xv m c) (wqv m c)) (kv m c 512 inb_S4096x1024_S4096x128_0_512) (vv m c 512 inb_S4096x1024_S4096x128_0_512))
    (k0_pay10 (k0_pay1 (xv m c) (wqv m c)) (kv m c 640 inb_S4096x1024_S4096x128_0_640) (vv m c 640 inb_S4096x1024_S4096x128_0_640))
    (k0_pay11 (k0_pay1 (xv m c) (wqv m c)))
    (kv m c 768 inb_S4096x1024_S4096x128_0_768) (vv m c 768 inb_S4096x1024_S4096x128_0_768)
    (kv m c 896 inb_S4096x1024_S4096x128_0_896) (vv m c 896 inb_S4096x1024_S4096x128_0_896)

/-- What device `c` sends as its `j`-th transfer of the first exchange. -/
def msg (c : Dev nD) (j : Fin 7) : FVec F S1x256x128 .bf16 := k0_pay15 (heads m c) (wov m c (nxt j c))
/-- What lands in slot `j` of device `c` in the first exchange. -/
def got (c : Dev nD) (j : Fin 7) : FVec F S1x256x128 .bf16 := msg m (prv j c) j
/-- The sum device `c` makes of its own product and the first five landings. -/
def part (c : Dev nD) : FVec F S256x128 .f32 :=
  k0_pay25 (k0_pay24 (k0_pay23 (heads m c) (wov m c c)) (got m c 0) (got m c 1) (got m c 2)) (got m c 3) (got m c 4)
/-- Device `c`'s reduced block, and the form of it that it sends. -/
def red (c : Dev nD) : FVec F S256x128 .f32 := k0_pay26 (part m c) (got m c 5) (got m c 6)
def redb (c : Dev nD) : FVec F S256x128 .bf16 := k0_pay27 (part m c) (got m c 5) (got m c 6)
/-- Block `k` of device `c`'s result: its own as reduced, another device's as received. -/
def blockOf (c k : Dev nD) : FVec F S256x128 .f32 := if k = c then red m c else k0_pay28 (lead (redb m k))

theorem blockOf_self (c : Dev nD) : blockOf m c c = red m c := if_pos rfl
theorem blockOf_prv (c : Dev nD) (j : Fin 7) : blockOf m c (prv j c) = k0_pay28 (lead (redb m (prv j c))) := if_neg (prv_ne j c)

/-- Device `c`'s result: its eight blocks side by side. -/
def outAt (c : Dev nD) : (cc0_stg5_0 : Ref sig .tc).ty.Contents (Elt F) := fun y : S256x1024.Idx =>
  blockOf m c (⟨(y 1).val / 128, by have := (y 1).isLt; have h : S256x1024.size 1 = 1024 := rfl; show _ < 8; omega⟩ : Dev nD)
    (fun a => match a with | ⟨0, _⟩ => (y 0 : Fin 256) | ⟨1, _⟩ => (⟨(y 1).val % 128, Nat.mod_lt _ (by decide)⟩ : Fin 128))

/-! ## The cells -/

/-- A cell of a device: its barrier (0) or exit (1), or the `j`-th of the first exchange's send (0) and receive (1)
    cells and of the second's (2, 3). -/
abbrev CI : Type := Fin 2 ⊕ Fin 4 × Fin 7

abbrev barS : Sem sig := (SemArray.scalar (sig.barrier 0 rfl) : Sems sig S_).sem
abbrev exitS : Sem sig := (cc0_scoped0 : Sems sig S_).sem

set_option backward.proofsInPublic true in
def xsem (k : Fin 4) (j : Fin 7) : DmaSem sig := (⟨6 + 7 * k.val + j.val, by show _ < 34; omega⟩ : Fin 34)
def csem : CI → SemLoc sig
  | .inl 0 => .reg barS
  | .inl 1 => .reg exitS
  | .inr (k, j) => .dma (xsem k j)
abbrev kcell (c : Dev nD) (i : CI) : GSem nD τ sig := ((c : Thread nD τ), csem i)

/-- The cell of a semaphore, found back. -/
def cellIx : SemLoc sig → Option CI
  | .reg s => if s = barS then some (.inl 0) else if s = exitS then some (.inl 1) else none
  | .dma q => if h : 6 ≤ (q : Fin 34).val then some (.inr (⟨((q : Fin 34).val - 6) / 7, by have hq : (q : Fin 34).val < 34 := (q : Fin 34).isLt; omega⟩, ⟨((q : Fin 34).val - 6) % 7, Nat.mod_lt _ (by decide)⟩)) else none

theorem cellIx_csem (i : CI) : cellIx (csem i) = some i := by revert i; decide
theorem csem_inj : Function.Injective csem := fun a b h => Option.some.inj (by rw [← cellIx_csem a, ← cellIx_csem b, h])

abbrev N : ℕ := (slotQ lndM 0).view.dmaCredit
theorem N_pos : 0 < N := View.dmaCredit_pos _ (by decide)

/-! ## The schedule -/

/-- The share of the reduced block left once `j` transfers have taken theirs. -/
def left : ℕ → PosShare TreeShare
  | 0 => fullShare
  | j + 1 => (left j).right

/-- Slot `j` of a buffer, holding anything. -/
def freeSlot (M : Memref sig .tc .vmem S7x256x128 .bf16) (c : Dev nD) (j : Fin 7) : sProp 𝕄 :=
  iprop(∃ X : S1x256x128.Idx → Elt F .bf16, owns (c : Thread nD τ) (slot M j) fullShare X)
/-- What duty `j` of `c`'s barrier hands over: the slots, on the device that pays it, that `c` writes. -/
def barPay (c : Dev nD) (j : Fin 7) : sProp 𝕄 :=
  iprop(freeSlot lndM (nxt (opp j) c) (opp j) ∗ freeSlot gatM (nxt (opp j) c) (opp j))
def xPay (c : Dev nD) (k : Fin 4) (j : Fin 7) : sProp 𝕄 :=
  match k with
  | 0 => owns (c : Thread nD τ) (slot sndM j) fullShare (msg m c j)
  | 1 => owns (c : Thread nD τ) (slot lndM j) fullShare (got m c j)
  | 2 => owns (c : Thread nD τ) redM (left j.val).left (redb m c)
  | 3 => owns (c : Thread nD τ) (slot gatM j) fullShare (lead (redb m (prv j c)))
def pay (c : Dev nD) (i : CI) (d : Fin 7) : sProp 𝕄 :=
  match i with
  | .inl 0 => barPay c d
  | .inl 1 => iprop(emp)
  | .inr (k, j) => xPay m c k j

def dutiesOf : CI → Finset (Fin 7)
  | .inl _ => Finset.univ
  | .inr _ => {0}
def amountOf : CI → ℕ
  | .inl _ => 1
  | .inr _ => N

theorem amountOf_pos (i : CI) : 0 < amountOf i := by
  rcases i with i | i
  · exact Nat.one_pos
  · exact N_pos

def rd : Rounds.Schedule (GSem nD τ sig) (Fin 7) 𝕄 where
  duties g r := if r = 0 ∧ g.1.2 = .tc then (match cellIx g.2 with | some i => dutiesOf i | none => ∅) else ∅
  unitless _ := False
  amount g _ _ := match cellIx g.2 with | some i => amountOf i | none => 1
  payload g _ d := match cellIx g.2 with | some i => pay m g.1.1 i d | none => iprop(emp)
  amount_pos g _ _ _ := by
    cases h : cellIx g.2 with
    | none => exact Nat.one_pos
    | some i => exact amountOf_pos i

omit [FloatOps F] in
instance freeSlot_storable (M : Memref sig .tc .vmem S7x256x128 .bf16) (c : Dev nD) (j : Fin 7) :
    BI.Storable (upEmb : UEmb _ 𝕄) (freeSlot (F := F) M c j) := by unfold freeSlot; infer_instance
instance xPay_storable (c : Dev nD) (k : Fin 4) (j : Fin 7) : BI.Storable (upEmb : UEmb _ 𝕄) (xPay (F := F) m c k j) := by
  unfold xPay; split <;> infer_instance
instance pay_storable (c : Dev nD) (i : CI) (d : Fin 7) : BI.Storable (upEmb : UEmb _ 𝕄) (pay (F := F) m c i d) := by
  unfold pay barPay; split <;> infer_instance
instance rd_payload_storable (g : GSem nD τ sig) (r : ℕ) (d : Fin 7) :
    BI.Storable (upEmb : UEmb _ 𝕄) ((rd (F := F) m).payload g r d) := by
  show BI.Storable upEmb (match cellIx g.2 with | some i => pay m g.1.1 i d | none => iprop(emp))
  split <;> infer_instance

theorem duties_at (c : Dev nD) (i : CI) : (rd (F := F) m).duties (kcell c i) 0 = dutiesOf i := by
  dsimp only [rd]; rw [if_pos ⟨rfl, rfl⟩, cellIx_csem]
theorem duties_later (g : GSem nD τ sig) : ∀ r, 1 ≤ r → (rd (F := F) m).duties g r = ∅ :=
  fun r hr => by dsimp only [rd]; rw [if_neg fun h => by omega]
theorem amount_at (c : Dev nD) (i : CI) (d : Fin 7) : (rd (F := F) m).amount (kcell c i) 0 d = amountOf i := by
  dsimp only [rd]; rw [cellIx_csem]
theorem payload_at (c : Dev nD) (i : CI) (d : Fin 7) : (rd (F := F) m).payload (kcell c i) 0 d = pay m c i d := by
  dsimp only [rd]; rw [cellIx_csem]
theorem expect_reg (c : Dev nD) (i : Fin 2) : (rd (F := F) m).expect (kcell c (.inl i)) 0 = 7 := by
  unfold Schedule.expect Schedule.amountOf
  rw [duties_at, Finset.sum_congr rfl fun d _ => amount_at m c (.inl i) d]; rfl
theorem expect_xfer (c : Dev nD) (k : Fin 4) (j : Fin 7) : (rd (F := F) m).expect (kcell c (.inr (k, j))) 0 = N := by
  unfold Schedule.expect Schedule.amountOf
  rw [duties_at, Finset.sum_congr rfl fun d _ => amount_at m c (.inr (k, j)) d]; exact Finset.sum_singleton _ _
theorem rest_reg (c : Dev nD) (i : Fin 2) : bigSep ((rd (F := F) m).duties (kcell c (.inl i)) 0 \ ∅) (fun d => (rd (F := F) m).payload (kcell c (.inl i)) 0 d)
    = bigSep Finset.univ fun d => pay m c (.inl i) d := by
  rw [Finset.sdiff_empty, duties_at]; exact bigSep_congr fun d _ => payload_at m c (.inl i) d
theorem rest_xfer (c : Dev nD) (k : Fin 4) (j : Fin 7) :
    bigSep ((rd (F := F) m).duties (kcell c (.inr (k, j))) 0 \ ∅) (fun d => (rd (F := F) m).payload (kcell c (.inr (k, j))) 0 d) = xPay m c k j := by
  rw [Finset.sdiff_empty, duties_at]; exact bigSep_singleton.trans (payload_at m c (.inr (k, j)) 0)

/-! ## What a device owes, step by step -/

/-- The `i`-th thing a device pays for another: seven barriers, seven transfers, seven transfers, seven exits. -/
def dueCI (i : ℕ) : CI :=
  if i < 7 then .inl 0 else if i < 14 then .inr (1, Fin.ofNat 7 (i % 7)) else if i < 21 then .inr (3, Fin.ofNat 7 (i % 7)) else .inl 1
def dueCell (c : Dev nD) (i : ℕ) : GSem nD τ sig := kcell (nxt (Fin.ofNat 7 (i % 7)) c) (dueCI i)
def due (c : Dev nD) (i : ℕ) : CellTallies nD τ sig Unit := tallyAt (dueCell c i) () (amountOf (dueCI i))
/-- What is left to pay once `k` things are paid. -/
def owed (c : Dev nD) (k : ℕ) : CellTallies nD τ sig Unit := ∑ i ∈ Finset.Ico k 28, due c i

theorem owed_step (c : Dev nD) (k : ℕ) (h : k < 28) : owed c k = owed c (k + 1) + due c k := by
  unfold owed; rw [Finset.sum_eq_sum_Ico_succ_bot h, add_comm]
theorem owed_end (c : Dev nD) : owed c 28 = 0 := by unfold owed; rw [Finset.Ico_self, Finset.sum_empty]

theorem ofNat_mod (k : ℕ) (j : Fin 7) : Fin.ofNat 7 ((7 * k + j.val) % 7) = j := by
  apply Fin.ext; show (7 * k + j.val) % 7 % 7 = j.val; have := j.isLt; omega
theorem due_bar (c : Dev nD) (j : Fin 7) : due c (7 * 0 + j.val) = tallyAt (kcell (nxt j c) (.inl 0)) () 1 := by
  unfold due dueCell; rw [ofNat_mod]; have h : dueCI (7 * 0 + j.val) = .inl 0 := by revert j; decide
  rw [h]; rfl
theorem due_one (c : Dev nD) (j : Fin 7) : due c (7 * 1 + j.val) = tallyAt (kcell (nxt j c) (.inr (1, j))) () N := by
  unfold due dueCell; rw [ofNat_mod]; have h : dueCI (7 * 1 + j.val) = .inr (1, j) := by revert j; decide
  rw [h]; rfl
theorem due_two (c : Dev nD) (j : Fin 7) : due c (7 * 2 + j.val) = tallyAt (kcell (nxt j c) (.inr (3, j))) () N := by
  unfold due dueCell; rw [ofNat_mod]; have h : dueCI (7 * 2 + j.val) = .inr (3, j) := by revert j; decide
  rw [h]; rfl
theorem due_exit (c : Dev nD) (j : Fin 7) : due c (7 * 3 + j.val) = tallyAt (kcell (nxt j c) (.inl 1)) () 1 := by
  unfold due dueCell; rw [ofNat_mod]; have h : dueCI (7 * 3 + j.val) = .inl 1 := by revert j; decide
  rw [h]; rfl

/-! ## The levels -/

def L (g : GSem nD τ sig) : Finset Unit := if g.1.2 = .tc then {()} else ∅
def lvOf : CI → ℕ
  | .inl 0 => 1
  | .inl 1 => 4
  | .inr (1, _) => 2
  | .inr (3, _) => 3
  | .inr _ => 0
def lv (g : GSem nD τ sig) (_ : Unit) : ℕ := match cellIx g.2 with | some i => lvOf i | none => 0

theorem L_of_ne (g : GSem nD τ sig) (h : g.1.2 ≠ .tc) : L g = ∅ := if_neg h
theorem L_tc (c : Dev nD) (sm : SemLoc sig) : L ((c : Thread nD τ), sm) = {()} := if_pos rfl
theorem lv_at (c : Dev nD) (i : CI) : lv (kcell c i) () = lvOf i := by unfold lv; rw [cellIx_csem]

theorem lvOf_due (i : ℕ) (h : i < 28) : lvOf (dueCI i) = 1 + i / 7 := by
  have : ∀ i : Fin 28, lvOf (dueCI i.val) = 1 + i.val / 7 := by decide
  exact this ⟨i, h⟩

theorem owed_pos {c : Dev nD} {k : ℕ} {g : GSem nD τ sig} {u : Unit} (h : 0 < owed c k g u) : ∃ i, k ≤ i ∧ i < 28 ∧ g = dueCell c i := by
  unfold owed at h
  rw [Finset.sum_apply, Finsupp.finset_sum_apply] at h
  obtain ⟨i, hi, hp⟩ := Finset.exists_ne_zero_of_sum_ne_zero (Nat.pos_iff_ne_zero.mp h)
  refine ⟨i, (Finset.mem_Ico.mp hi).1, (Finset.mem_Ico.mp hi).2, ?_⟩
  by_contra hg
  exact hp (by unfold due; rw [tallyAt_apply, if_neg fun h' => hg h'.1])

omit [FloatOps F] in
/-- A device that owes the things from the `k`-th on may wait on any of its cells of level at most `k / 7`. -/
theorem mayWait (c : Dev nD) (sm : SemLoc sig) (k : ℕ) (h : lv ((c : Thread nD τ), sm) () ≤ k / 7) :
    (levAts L lv : sProp 𝕄) ⊢ MayWait (c : Thread nD τ) sm () (owed c k) :=
  MayOwe.of_cut (L := L) (lev := lv) (k / 7)
    (fun p hp => by rw [Finset.mem_singleton.mp hp, L_tc]; exact Finset.mem_singleton_self _)
    (fun g u hg => by obtain ⟨i, -, -, rfl⟩ := owed_pos hg; unfold dueCell; rw [L_tc]; exact Finset.mem_singleton_self _)
    (fun p hp => by rw [Finset.mem_singleton.mp hp]; exact h)
    (fun g u hg => by
      obtain ⟨i, h1, h2, rfl⟩ := owed_pos hg
      unfold dueCell; rw [lv_at, lvOf_due i h2]
      have := Nat.div_le_div_right (c := 7) h1; omega)

end Cert.Exchange

end
-- ==== Proof.Steps.lean ====
/-
# 01_k — one step of the body at a time

Each operation of the kernel's body that touches a semaphore, as one lemma in the index `j` of the pair it serves; and the
loads and stores of slots and of blocks. `rest Φ n` is what is left of a family over the seven pairs once the first `n` are
used, `done Φ n` what the first `n` have become.
-/
module

public import proofs.«01_k».proof.Proof.Protocol

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Families over the seven pairs -/

def rest (Φ : Fin 7 → sProp 𝕄) (n : ℕ) : sProp 𝕄 := bigSep (Finset.univ.filter fun j : Fin 7 => n ≤ j.val) Φ
def done (Φ : Fin 7 → sProp 𝕄) (n : ℕ) : sProp 𝕄 := bigSep (Finset.univ.filter fun j : Fin 7 => j.val < n) Φ

omit [FloatOps F] in
theorem rest_zero (Φ : Fin 7 → sProp 𝕄) : rest Φ 0 = bigSep Finset.univ Φ := by
  unfold rest; rw [Finset.filter_true_of_mem fun j _ => Nat.zero_le _]
omit [FloatOps F] in
theorem done_zero (Φ : Fin 7 → sProp 𝕄) : done Φ 0 = iprop(emp) := by
  unfold done; rw [Finset.filter_false_of_mem fun j _ => Nat.not_lt_zero _]; rfl
omit [FloatOps F] in
theorem done_all (Φ : Fin 7 → sProp 𝕄) : done Φ 7 = bigSep Finset.univ Φ := by
  unfold done; rw [Finset.filter_true_of_mem fun j _ => j.isLt]
omit [FloatOps F] in
theorem rest_step (Φ : Fin 7 → sProp 𝕄) (j : Fin 7) {n : ℕ} (hn : j.val = n) : rest Φ n = iprop(Φ j ∗ rest Φ (n + 1)) := by
  subst hn; unfold rest
  rw [show (Finset.univ.filter fun i : Fin 7 => j.val ≤ i.val) = insert j (Finset.univ.filter fun i : Fin 7 => j.val + 1 ≤ i.val) by
    ext i; simp only [Finset.mem_filter, Finset.mem_univ, true_and, Finset.mem_insert, Fin.ext_iff]; omega]
  exact bigSep_insert (by simp only [Finset.mem_filter, not_and]; omega)
omit [FloatOps F] in
theorem done_step (Φ : Fin 7 → sProp 𝕄) (j : Fin 7) {n : ℕ} (hn : j.val = n) : done Φ (n + 1) = iprop(Φ j ∗ done Φ n) := by
  subst hn; unfold done
  rw [show (Finset.univ.filter fun i : Fin 7 => i.val < j.val + 1) = insert j (Finset.univ.filter fun i : Fin 7 => i.val < j.val) by
    ext i; simp only [Finset.mem_filter, Finset.mem_univ, true_and, Finset.mem_insert, Fin.ext_iff]; omega]
  exact bigSep_insert (by simp only [Finset.mem_filter, not_and]; omega)

/-! ## What every device knows -/

/-- The cells' invariants, under the names the launch gave them, and that each is at its round. -/
def recs (K : Dev nD × CI → ℕ) : sProp 𝕄 :=
  iprop((bigSep Finset.univ fun ck : Dev nD × CI => cellInv ER (rd m) (K ck) (kcell ck.1 ck.2))
    ∗ bigSep Finset.univ fun ck : Dev nD × CI => reached ER (kcell ck.1 ck.2) 0)

instance recs_persistent (K : Dev nD × CI → ℕ) : BI.Persistent (recs m K) := by unfold recs; infer_instance

theorem inv_of (K : Dev nD × CI → ℕ) (c : Dev nD) (i : CI) : recs m K ⊢ cellInv ER (rd m) (K (c, i)) (kcell c i) :=
  (show (_ : sProp 𝕄) ⊢ _ by unfold recs; iintro ⟨#H, #-⟩; iexact H).trans
    (bigSep_elim (Φ := fun ck : Dev nD × CI => (cellInv ER (rd m) (K ck) (kcell ck.1 ck.2) : sProp 𝕄)) (Finset.mem_univ (c, i)))
theorem reached_of (K : Dev nD × CI → ℕ) (c : Dev nD) (i : CI) : recs m K ⊢ reached ER (kcell c i) 0 :=
  (show (_ : sProp 𝕄) ⊢ _ by unfold recs; iintro ⟨#-, #H⟩; iexact H).trans
    (bigSep_elim (Φ := fun ck : Dev nD × CI => (reached ER (kcell ck.1 ck.2) 0 : sProp 𝕄)) (Finset.mem_univ (c, i)))

/-- What device `c` still owes, whatever it has waited on. -/
def ow (c : Dev nD) (k : ℕ) : sProp 𝕄 := iprop(∃ W, owes (c : Thread nD τ) (owed c k) W)

abbrev 𝒱₀ : Variants := Variants.none

abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## The barrier and the exit -/

/-- What device `c` raises the `j`-th barrier with: its duty there and the slots it offers. -/
def barTok (c : Dev nD) (j : Fin 7) : sProp 𝕄 :=
  iprop(dutyTok ER (kcell (nxt j c) (.inl 0)) 0 j ∗ freeSlot lndM c (opp j) ∗ freeSlot gatM c (opp j))
def exitTok (c : Dev nD) (j : Fin 7) : sProp 𝕄 := dutyTok ER (kcell (nxt j c) (.inl 1)) 0 j
/-- The slots on the `j`-th next device that `c` writes. -/
def landing (c : Dev nD) (j : Fin 7) : sProp 𝕄 := iprop(freeSlot lndM (nxt j c) j ∗ freeSlot gatM (nxt j c) j)

section
variable (K : Dev nD × CI → ℕ) (c : Dev nD)

theorem bar_signal {α : Type} {Q : α → sProp 𝕄} {k : PUnit → Prog (TpuEff nD τ sig (Elt F) Λ₀ .tc) α} (j : Fin 7) {n : ℕ} (hn : j.val = n) {dst : Dev nD} (hd : dst = nxt j c) {s : Sem sig} (hs : s = barS) {k' : ℕ} (hk : k' = 1) :
    iprop(recs m K ∗ ow c n ∗ rest (barTok c) n)
      ⊢ iprop(((ow c (n + 1) ∗ rest (barTok c) (n + 1)) -∗ run (F := F) c (k ⟨⟩) Q)
        -∗ run (F := F) c (.op (.semSignal (Dev.tc dst : Thread nD τ) s k') k) Q) := by
  subst hd hs hk
  have hd : j ∈ (rd m).duties (kcell (nxt j c) (.inl 0)) 0 := by rw [duties_at]; exact Finset.mem_univ _
  have hO : owed c n = owed c (n + 1) + tallyAt (kcell (nxt j c) (.inl 0)) () 1 := by
    subst hn; rw [owed_step c j.val (by omega)]; exact congrArg _ ((congrArg (due c) (by omega)).trans (due_bar c j))
  rw [rest_step (barTok c) j hn]
  unfold ow barTok
  iintro ⟨#HR, ⟨%W, HO⟩, ⟨Ht, Hl, Hg⟩, Hr⟩ Hk
  iapply (Rounds.wp_signal 𝒱₀ ER (rd m) (c : Thread nD τ) none (dst := (nxt j c : Thread nD τ)) (κ := K (nxt j c, .inl 0)) (r := 0)
      (d := j) (sem := barS) hd
      (amount_at m (nxt j c) (.inl 0) j) () (owed c (n + 1)) hO) $$ [HO Ht Hl Hg]
  · isplitr; · iapply (inv_of m K (nxt j c) (.inl 0)); iexact HR
    isplitl [HO]; · iexact HO
    isplitl [Ht]; · iexact Ht
    isplitl [Hl Hg]
    · iapply (show pay m (nxt j c) (.inl 0) j ⊢ (rd m).payload ((nxt j c : Thread nD τ), SemLoc.reg barS) 0 j from Entails.of_eq (payload_at m (nxt j c) (.inl 0) j).symm)
      unfold pay barPay; rw [nxt_opp]
      isplitl [Hl] <;> iassumption
    iapply (reached_of m K (nxt j c) (.inl 0)); iexact HR
  iintro HO
  iapply Hk
  isplitl [HO]; · iexists W; iexact HO
  iexact Hr

theorem exit_signal {α : Type} {Q : α → sProp 𝕄} {k : PUnit → Prog (TpuEff nD τ sig (Elt F) Λ₀ .tc) α} (j : Fin 7) {n n' : ℕ} (hn : j.val = n) (hn' : n' = 21 + n) {dst : Dev nD} (hd : dst = nxt j c) {s : Sem sig} (hs : s = exitS) {k' : ℕ} (hk : k' = 1) :
    iprop(recs m K ∗ ow c n' ∗ rest (exitTok c) n)
      ⊢ iprop(((ow c (n' + 1) ∗ rest (exitTok c) (n + 1)) -∗ run (F := F) c (k ⟨⟩) Q)
        -∗ run (F := F) c (.op (.semSignal (Dev.tc dst : Thread nD τ) s k') k) Q) := by
  subst hd hs hk hn'
  have hd : j ∈ (rd m).duties (kcell (nxt j c) (.inl 1)) 0 := by rw [duties_at]; exact Finset.mem_univ _
  have hOe : owed c (21 + n) = owed c (21 + n + 1) + tallyAt (kcell (nxt j c) (.inl 1)) () 1 := by
    subst hn; rw [owed_step c (21 + j.val) (by omega)]; exact congrArg _ ((congrArg (due c) (by omega)).trans (due_exit c j))
  rw [rest_step (exitTok c) j hn]
  unfold ow exitTok
  iintro ⟨#HR, ⟨%W, HO⟩, Ht, Hr⟩ Hk
  iapply (Rounds.wp_signal 𝒱₀ ER (rd m) (c : Thread nD τ) none (dst := (nxt j c : Thread nD τ)) (κ := K (nxt j c, .inl 1)) (r := 0)
      (d := j) (sem := exitS) hd
      (amount_at m (nxt j c) (.inl 1) j) () (owed c (21 + n + 1)) hOe) $$ [HO Ht]
  · isplitr; · iapply (inv_of m K (nxt j c) (.inl 1)); iexact HR
    isplitl [HO]; · iexact HO
    isplitl [Ht]; · iexact Ht
    isplitr
    · iapply (show pay m (nxt j c) (.inl 1) j ⊢ (rd m).payload ((nxt j c : Thread nD τ), SemLoc.reg exitS) 0 j from Entails.of_eq (payload_at m (nxt j c) (.inl 1) j).symm)
      unfold pay; iempintro
    iapply (reached_of m K (nxt j c) (.inl 1)); iexact HR
  iintro HO
  iapply Hk
  isplitl [HO]; · iexists W; iexact HO
  iexact Hr

/-- The wait for all seven on a barrier or exit cell. -/
theorem reg_wait {α : Type} {Q : α → sProp 𝕄} {k : PUnit → Prog (TpuEff nD τ sig (Elt F) Λ₀ .tc) α} (i : Fin 2) {n : ℕ} (hl : lvOf (.inl i) ≤ n / 7) {s : Sem sig} (hs : SemLoc.reg s = csem (.inl i)) {k' : ℕ} (hk : k' = 7) :
    iprop(recs m K ∗ levAts L lv ∗ ow c n ∗ cred (tallyAt (kcell c (.inl i)) () 7) ∗ atPos ER (kcell c (.inl i)) 0 ∅ 0)
      ⊢ iprop(((ow c n ∗ atPos ER (kcell c (.inl i)) 1 ∅ 0 ∗ bigSep Finset.univ fun d => pay m c (.inl i) d) -∗ run (F := F) c (k ⟨⟩) Q)
        -∗ run (F := F) c (.op (.semWait s k') k) Q) := by
  subst hk
  unfold ow
  iintro ⟨#HR, #HL, ⟨%W, HO⟩, Hc, Ha⟩ Hk
  iapply (Rounds.wp_wait_rest_token 𝒱₀ ER (rd m) (c : Thread nD τ) none (sm := csem (.inl i)) (κ := K (c, .inl i))
      (fun K' => (wpE_semWait_eq 𝒱₀ (c : Thread nD τ) none Set.univ K').trans (by rw [hs])) (Set.mem_univ _) () (O := owed c n) (W := W) (R := 0) (m := 0) (T := ∅)
      (by rw [expect_reg])) $$ [HO Hc Ha]
  · isplitr; · iapply (inv_of m K c (.inl i)); iexact HR
    isplitl [Hc]; · iexact Hc
    isplitl [HO]; · iexact HO
    isplitr; · iapply (mayWait c (csem (.inl i)) n (by rw [lv_at]; exact hl)); iexact HL
    iexact Ha
  iintro ⟨HO, Ha, -, Hp⟩
  iapply Hk
  isplitl [HO]; · iexists _; iexact HO
  isplitl [Ha]; · iexact Ha
  iapply (Entails.of_eq (rest_reg m c i)); iexact Hp

/-! ## The transfers -/

/-- What a wait on a transfer's cell takes, and what is left of it. -/
def wantTok (x : Fin 4) (j : Fin 7) : sProp 𝕄 :=
  iprop(cred (tallyAt (kcell c (.inr (x, j))) () N) ∗ atPos ER (kcell c (.inr (x, j))) 0 ∅ 0)
def hadTok (x : Fin 4) (j : Fin 7) : sProp 𝕄 := atPos ER (kcell c (.inr (x, j))) 1 ∅ 0

/-- The wait on the cell of transfer `j`, of whichever kind: its payload. -/
theorem xfer_wait {α : Type} {Q : α → sProp 𝕄} {k : PUnit → Prog (TpuEff nD τ sig (Elt F) Λ₀ .tc) α} (x : Fin 4) (j : Fin 7) {n o : ℕ} (hn : j.val = n) (hl : lvOf (.inr (x, j)) ≤ o / 7) {q : DmaSem sig} (hq : q = xsem x j)
    {sp sp' : Space} {s s' : Shape} {e e' : EltTy} {src : Memref sig .tc sp' s' e'} {dst : Memref sig .tc sp s e} (hN : dst.view.dmaCredit = N)
    {hsrc : src.view.WordExact} {hdst : dst.view.WordExact} :
    iprop(recs m K ∗ levAts L lv ∗ ow c o ∗ rest (wantTok c x) n ∗ done (hadTok c x) n)
      ⊢ iprop(((ow c o ∗ rest (wantTok c x) (n + 1) ∗ done (hadTok c x) (n + 1) ∗ xPay m c x j) -∗ run (F := F) c (k ⟨⟩) Q)
        -∗ run (F := F) c (.op (.waitDma2 q src dst hsrc hdst) k) Q) := by
  subst hq
  rw [rest_step (wantTok c x) j hn, done_step (hadTok c x) j hn]
  unfold ow wantTok hadTok
  iintro ⟨#HR, #HL, ⟨%W, HO⟩, ⟨⟨Hc, Ha⟩, Hr⟩, Hd⟩ Hk
  iapply (Rounds.wp_wait_rest_token 𝒱₀ ER (rd m) (c : Thread nD τ) none (sm := csem (.inr (x, j))) (k' := N) (κ := K (c, .inr (x, j)))
      (fun K' => (wpE_waitDma2_eq 𝒱₀ (c : Thread nD τ) none Set.univ K').trans (by rw [hN]; rfl)) (Set.mem_univ _) () (O := owed c o) (W := W) (R := 0) (m := 0) (T := ∅)
      (by rw [expect_xfer, Nat.zero_add])) $$ [HO Hc Ha]
  · isplitr; · iapply (inv_of m K c (.inr (x, j))); iexact HR
    isplitl [Hc]; · iexact Hc
    isplitl [HO]; · iexact HO
    isplitr; · iapply (mayWait c (csem (.inr (x, j))) o (by rw [lv_at]; exact hl)); iexact HL
    iexact Ha
  iintro ⟨HO, Ha, -, Hp⟩
  iapply Hk
  isplitl [HO]; · iexists _; iexact HO
  isplitl [Hr]; · iexact Hr
  isplitl [Ha Hd]
  · isplitl [Ha] <;> iassumption
  iapply (Entails.of_eq (rest_xfer m c x j)); iexact Hp

theorem credit_snd (j : Fin 7) : (slotQ sndM j).view.dmaCredit = N := rfl
theorem credit_lnd (j : Fin 7) : (slotQ lndM j).view.dmaCredit = N := rfl
theorem credit_gat (j : Fin 7) : (slotQ gatM j).view.dmaCredit = N := rfl
theorem credit_red : (redM : Memref sig .tc .vmem S256x128 .bf16).view.dmaCredit = N := rfl

/-- What the `j`-th transfer of the first exchange takes beside its source, and of the second. -/
def oneTok (j : Fin 7) : sProp 𝕄 :=
  iprop(freeSlot lndM (nxt j c) j ∗ dutyTok ER (kcell c (.inr (0, j))) 0 0 ∗ dutyTok ER (kcell (nxt j c) (.inr (1, j))) 0 0)
def twoTok (j : Fin 7) : sProp 𝕄 :=
  iprop(freeSlot gatM (nxt j c) j ∗ dutyTok ER (kcell c (.inr (2, j))) 0 0 ∗ dutyTok ER (kcell (nxt j c) (.inr (3, j))) 0 0)
def crTok (x : Fin 4) (j : Fin 7) : sProp 𝕄 := cred (tallyAt (kcell c (.inr (x, j))) () N)

omit [FloatOps F] in
/-- Slot `j`, written through the transfers' view of it: what it holds. -/
theorem write_slot (M : Memref sig .tc .vmem S7x256x128 .bf16) (j : Fin 7) (f : M.view.ty.Contents (Elt F)) (X : S256x128.Idx → Elt F .bf16) :
    (slot M j).view.read (Elt F) ((slotQ M j).view.write (Elt F) f X Finset.univ) = lead X := by
  funext x
  have h := View.read_write_reshape (v := (slot M j).view) squeezes_S1x256x128_S256x128.numel_eq f X ((Shape.reshapeEquiv squeezes_S1x256x128_S256x128.numel_eq).symm x)
  rw [Equiv.apply_symm_apply] at h
  exact h

omit [FloatOps F] in
theorem lead_read (M : Memref sig .tc .vmem S7x256x128 .bf16) (j : Fin 7) (f : M.view.ty.Contents (Elt F)) :
    lead ((slotQ M j).view.read (Elt F) f) = (slot M j).view.read (Elt F) f := by
  funext x
  unfold lead
  show (slot M j).view.read (Elt F) f (Shape.reshapeEquiv _ _) = _
  rw [Equiv.apply_symm_apply]

def unlead (Y : S1x256x128.Idx → Elt F .bf16) : S256x128.Idx → Elt F .bf16 :=
  fun x => Y (Shape.reshapeEquiv squeezes_S1x256x128_S256x128.numel_eq x)
omit [FloatOps F] in
theorem lead_unlead (Y : S1x256x128.Idx → Elt F .bf16) : lead (unlead Y) = Y := by
  funext x; unfold lead unlead; rw [Equiv.apply_symm_apply]

omit [FloatOps F] in
theorem owns_lead (d : Dev nD) (M : Memref sig .tc .vmem S7x256x128 .bf16) (j : Fin 7) (q : PosShare TreeShare) (Y : S1x256x128.Idx → Elt F .bf16) :
    (owns (d : Thread nD τ) (slot M j) q Y : sProp 𝕄) ⊢ owns (d : Thread nD τ) (slotQ M j) q (unlead Y) := by
  have hset : (slotQ M j).view.set = (slot M j).view.set := Memref.set_view_squeeze _ _
  unfold owns
  rw [hset]
  iintro ⟨%f, %hf, H⟩
  iexists f; isplitr
  · ipureintro; rw [← hf]; rfl
  · iexact H
omit [FloatOps F] in
theorem owns_unlead (d : Dev nD) (M : Memref sig .tc .vmem S7x256x128 .bf16) (j : Fin 7) (q : PosShare TreeShare) (X : S256x128.Idx → Elt F .bf16) :
    (owns (d : Thread nD τ) (slotQ M j) q X : sProp 𝕄) ⊢ owns (d : Thread nD τ) (slot M j) q (lead X) := by
  have hset : (slotQ M j).view.set = (slot M j).view.set := Memref.set_view_squeeze _ _
  unfold owns
  rw [hset]
  iintro ⟨%f, %hf, H⟩
  iexists f; isplitr
  · ipureintro; rw [← hf, lead_read]
  · iexact H

/-- A transfer of either exchange: its source, at a share of it, its landing slot, and the two duties it pays. -/
theorem send_step {α : Type} {Q : α → sProp 𝕄} {k : PUnit → Prog (TpuEff nD τ sig (Elt F) Λ₀ .tc) α} (a b : Fin 4) (j : Fin 7) {o : ℕ} {dn : Dev nD} (ht : dn = nxt j c)
    (hO : owed c o = owed c (o + 1) + tallyAt (kcell (nxt j c) (.inr (b, j))) () N)
    (M : Memref sig .tc .vmem S7x256x128 .bf16) (hN : (slotQ M j).view.dmaCredit = N)
    {src dst : Memref sig .tc .vmem S256x128 .bf16} (h2 : dst = slotQ M j) (q : PosShare TreeShare) (X : S256x128.Idx → Elt F .bf16)
    {s1 s2 : DmaSem sig} (h3 : s1 = xsem a j) (h4 : s2 = xsem b j)
    (hp1 : owns (c : Thread nD τ) src q X ⊢ xPay m c a j)
    (hp2 : owns (nxt j c : Thread nD τ) (slot M j) fullShare (lead X) ⊢ xPay m (nxt j c) b j)
    {hsc : (dst : Memref sig (Dev.tc dn : Thread nD τ).2.kind .vmem S256x128 .bf16).view.ref.isScScratch = false}
    {hsrc : src.view.WordExact} {hdst : dst.view.WordExact}
    {hsem : DmaTarget.Typed .vmem (.dma s2) (.remote (Dev.tc dn : Thread nD τ) dst (.dma s1) hsc)} :
    iprop(recs m K ∗ ow c o ∗ owns (c : Thread nD τ) src q X ∗ freeSlot M (nxt j c) j
        ∗ dutyTok ER (kcell c (.inr (a, j))) 0 0 ∗ dutyTok ER (kcell (nxt j c) (.inr (b, j))) 0 0)
      ⊢ iprop(((ow c (o + 1) ∗ cred (tallyAt (kcell c (.inr (a, j))) () N)) -∗ run (F := F) c (k ⟨⟩) Q)
        -∗ run (F := F) c (.op (.enqueueDma src (.remote (Dev.tc dn : Thread nD τ) dst (.dma s1) hsc) (.dma s2) hsrc hdst hsem) k) Q) := by
  subst ht h2 h3 h4
  have hd1 : (0 : Fin 7) ∈ (rd m).duties (kcell c (.inr (a, j))) 0 := by rw [duties_at]; exact Finset.mem_singleton_self _
  have hd2 : (0 : Fin 7) ∈ (rd m).duties (kcell (nxt j c) (.inr (b, j))) 0 := by rw [duties_at]; exact Finset.mem_singleton_self _
  have hset : (slotQ M j).view.set = (slot M j).view.set := Memref.set_view_squeeze _ _
  have hpay1 (f : Buf (Elt F) (src.view.loc (c : Thread nD τ))) (hf : src.view.read (Elt F) f = X) :
      (src.view.loc (c : Thread nD τ) ↦[src.view.set]{q} f : sProp 𝕄) ⊢ (rd m).payload (kcell c (.inr (a, j))) 0 0 := by
    rw [payload_at]
    refine BI.Entails.trans ?_ hp1
    show (_ : sProp 𝕄) ⊢ _
    unfold owns
    iintro H; iexists f; isplitr
    · ipureintro; exact hf
    · iexact H
  have hpay2 (f : Buf (Elt F) (src.view.loc (c : Thread nD τ))) (hf : src.view.read (Elt F) f = X) (fd : Buf (Elt F) ((slotQ M j).view.loc (nxt j c : Thread nD τ))) :
      ((slotQ M j).view.loc (nxt j c : Thread nD τ) ↦[(slotQ M j).view.set]{fullShare}
        (slotQ M j).view.write (Elt F) fd (src.view.read (Elt F) f) Finset.univ : sProp 𝕄) ⊢ (rd m).payload (kcell (nxt j c) (.inr (b, j))) 0 0 := by
    rw [payload_at]
    refine BI.Entails.trans ?_ hp2
    show (_ : sProp 𝕄) ⊢ _
    rw [hset]
    unfold owns
    iintro H; iexists _; isplitr
    rotate_left
    · iexact H
    · ipureintro; rw [write_slot, hf]
  have hw (W : Waits sig Unit) (f : Buf (Elt F) (src.view.loc (c : Thread nD τ))) (hf : src.view.read (Elt F) f = X) (fd : Buf (Elt F) ((slotQ M j).view.loc (nxt j c : Thread nD τ))) :
      iprop(cellInv ER (rd m) (K (c, .inr (a, j))) (kcell c (.inr (a, j))) ∗ cellInv ER (rd m) (K (nxt j c, .inr (b, j))) (kcell (nxt j c) (.inr (b, j)))
        ∗ (src.view.loc (c : Thread nD τ) ↦[src.view.set]{q} f) ∗ ((slotQ M j).view.loc (nxt j c : Thread nD τ) ↦[(slotQ M j).view.set]{fullShare} fd)
        ∗ owes (c : Thread nD τ) (owed c o) W
        ∗ dutyTok ER (kcell c (.inr (a, j))) 0 0 ∗ reached ER (kcell c (.inr (a, j))) 0
        ∗ dutyTok ER (kcell (nxt j c) (.inr (b, j))) 0 0 ∗ reached ER (kcell (nxt j c) (.inr (b, j))) 0)
      ⊢ iprop(((cred (tallyAt (kcell c (.inr (a, j))) () N) ∗ owes (c : Thread nD τ) (owed c (o + 1)) W) -∗ run (F := F) c (k ⟨⟩) Q)
        -∗ run (F := F) c (.op (.enqueueDma src (.remote (Dev.tc (nxt j c) : Thread nD τ) (slotQ M j) (.dma (xsem a j)) hsc) (.dma (xsem b j)) hsrc hdst hsem) k) Q) :=
    Rounds.wp_send_pointsTo 𝒱₀ ER (rd m) (c : Thread nD τ) none (κ₁ := K (c, .inr (a, j))) (κ₂ := K (nxt j c, .inr (b, j)))
      (r₁ := 0) (r₂ := 0) (d₁ := 0) (d₂ := 0) (fs := f) (fd := fd) (q := q) (W := W) (sS := .dma (xsem a j)) (sem := .dma (xsem b j))
      hd1 hd2 () () N hN (amount_at m c (.inr (a, j)) 0) (amount_at m (nxt j c) (.inr (b, j)) 0) (owed c (o + 1))
      hO (hpay1 f hf) (hpay2 f hf fd)
  unfold ow freeSlot
  iintro ⟨#HR, ⟨%W, HO⟩, Hs, ⟨%Y, Hd⟩, Ht1, Ht2⟩ Hk
  unfold owns
  icases Hs with ⟨%f, %hf, Hs⟩
  icases Hd with ⟨%fd, %hfd, Hd⟩
  iapply (hw W f hf fd) $$ [HO Hs Hd Ht1 Ht2]
  · isplitr; · iapply (inv_of m K c (.inr (a, j))); iexact HR
    isplitr; · iapply (inv_of m K (nxt j c) (.inr (b, j))); iexact HR
    isplitl [Hs]; · iexact Hs
    isplitl [Hd]; · rw [hset]; iexact Hd
    isplitl [HO]; · iexact HO
    isplitl [Ht1]; · iexact Ht1
    isplitr; · iapply (reached_of m K c (.inr (a, j))); iexact HR
    isplitl [Ht2]; · iexact Ht2
    iapply (reached_of m K (nxt j c) (.inr (b, j))); iexact HR
  iintro ⟨Hc, HO⟩
  iapply Hk
  isplitl [HO]; · iexists W; iexact HO
  iexact Hc

theorem send_one {α : Type} {Q : α → sProp 𝕄} {k : PUnit → Prog (TpuEff nD τ sig (Elt F) Λ₀ .tc) α} (j : Fin 7) {n n' : ℕ} (hn : j.val = n) (hn' : n' = 7 + n) {dn : Dev nD} (ht : dn = nxt j c)
    {src dst : Memref sig .tc .vmem S256x128 .bf16} (h1 : src = slotQ sndM j) (h2 : dst = slotQ lndM j)
    {s1 s2 : DmaSem sig} (h3 : s1 = xsem 0 j) (h4 : s2 = xsem 1 j)
    {hsc : (dst : Memref sig (Dev.tc dn : Thread nD τ).2.kind .vmem S256x128 .bf16).view.ref.isScScratch = false}
    {hsrc : src.view.WordExact} {hdst : dst.view.WordExact}
    {hsem : DmaTarget.Typed .vmem (.dma s2) (.remote (Dev.tc dn : Thread nD τ) dst (.dma s1) hsc)} :
    iprop(recs m K ∗ ow c n' ∗ owns (c : Thread nD τ) (slot sndM j) fullShare (msg m c j) ∗ rest (oneTok c) n ∗ done (crTok c 0) n)
      ⊢ iprop(((ow c (n' + 1) ∗ rest (oneTok c) (n + 1) ∗ done (crTok c 0) (n + 1)) -∗ run (F := F) c (k ⟨⟩) Q)
        -∗ run (F := F) c (.op (.enqueueDma src (.remote (Dev.tc dn : Thread nD τ) dst (.dma s1) hsc) (.dma s2) hsrc hdst hsem) k) Q) := by
  subst h1 hn'
  have hO : owed c (7 + n) = owed c (7 + n + 1) + tallyAt (kcell (nxt j c) (.inr (1, j))) () N := by
    subst hn; rw [owed_step c (7 + j.val) (by omega)]; exact congrArg _ ((congrArg (due c) (by omega)).trans (due_one c j))
  have hp1 : (owns (c : Thread nD τ) (slotQ sndM j) fullShare (unlead (msg m c j)) : sProp 𝕄) ⊢ xPay m c 0 j :=
    (owns_unlead c sndM j fullShare _).trans (Entails.of_eq (by rw [lead_unlead]; rfl))
  have hp2 : (owns (nxt j c : Thread nD τ) (slot lndM j) fullShare (lead (unlead (msg m c j))) : sProp 𝕄) ⊢ xPay m (nxt j c) 1 j :=
    Entails.of_eq (by rw [lead_unlead]; unfold xPay got; rw [prv_nxt])
  rw [rest_step (oneTok c) j hn, done_step (crTok c 0) j hn]
  unfold oneTok crTok
  iintro ⟨#HR, HO, Hs, ⟨⟨Hd, Ht1, Ht2⟩, Hr⟩, Hdn⟩ Hk
  ihave Hs := (owns_lead c sndM j fullShare (msg m c j)) $$ Hs
  iapply (send_step m K c 0 1 j ht hO lndM (credit_lnd j) h2 fullShare _ h3 h4 hp1 hp2) $$ [HO Hs Hd Ht1 Ht2]
  · isplitr; · iexact HR
    isplitl [HO]; · iexact HO
    isplitl [Hs]; · iexact Hs
    isplitl [Hd]; · iexact Hd
    isplitl [Ht1] <;> iassumption
  iintro ⟨HO, Hc⟩
  iapply Hk
  isplitl [HO]; · iexact HO
  isplitl [Hr]; · iexact Hr
  isplitl [Hc] <;> iassumption

theorem send_two {α : Type} {Q : α → sProp 𝕄} {k : PUnit → Prog (TpuEff nD τ sig (Elt F) Λ₀ .tc) α} (j : Fin 7) {n n' : ℕ} (hn : j.val = n) (hn' : n' = 14 + n) {dn : Dev nD} (ht : dn = nxt j c)
    {src dst : Memref sig .tc .vmem S256x128 .bf16} (h1 : src = redM) (h2 : dst = slotQ gatM j)
    {s1 s2 : DmaSem sig} (h3 : s1 = xsem 2 j) (h4 : s2 = xsem 3 j)
    {hsc : (dst : Memref sig (Dev.tc dn : Thread nD τ).2.kind .vmem S256x128 .bf16).view.ref.isScScratch = false}
    {hsrc : src.view.WordExact} {hdst : dst.view.WordExact}
    {hsem : DmaTarget.Typed .vmem (.dma s2) (.remote (Dev.tc dn : Thread nD τ) dst (.dma s1) hsc)} :
    iprop(recs m K ∗ ow c n' ∗ owns (c : Thread nD τ) redM (left n) (redb m c) ∗ rest (twoTok c) n ∗ done (crTok c 2) n)
      ⊢ iprop(((ow c (n' + 1) ∗ owns (c : Thread nD τ) redM (left (n + 1)) (redb m c) ∗ rest (twoTok c) (n + 1) ∗ done (crTok c 2) (n + 1)) -∗ run (F := F) c (k ⟨⟩) Q)
        -∗ run (F := F) c (.op (.enqueueDma src (.remote (Dev.tc dn : Thread nD τ) dst (.dma s1) hsc) (.dma s2) hsrc hdst hsem) k) Q) := by
  subst h1 hn'
  have hO : owed c (14 + n) = owed c (14 + n + 1) + tallyAt (kcell (nxt j c) (.inr (3, j))) () N := by
    subst hn; rw [owed_step c (14 + j.val) (by omega)]; exact congrArg _ ((congrArg (due c) (by omega)).trans (due_two c j))
  have hp1 : (owns (c : Thread nD τ) redM (left n).left (redb m c) : sProp 𝕄) ⊢ xPay m c 2 j := by
    subst hn; exact Entails.of_eq rfl
  have hp2 : (owns (nxt j c : Thread nD τ) (slot gatM j) fullShare (lead (redb m c)) : sProp 𝕄) ⊢ xPay m (nxt j c) 3 j :=
    Entails.of_eq (by unfold xPay; rw [prv_nxt])
  rw [rest_step (twoTok c) j hn, done_step (crTok c 2) j hn]
  unfold twoTok crTok
  iintro ⟨#HR, HO, Hs, ⟨⟨Hd, Ht1, Ht2⟩, Hr⟩, Hdn⟩ Hk
  ihave Hs := (owns_halves (c : Thread nD τ) redM (left n) (redb m c)).1 $$ Hs
  icases Hs with ⟨Hs, Hs'⟩
  iapply (send_step m K c 2 3 j ht hO gatM (credit_gat j) h2 (left n).left _ h3 h4 hp1 hp2) $$ [HO Hs Hd Ht1 Ht2]
  · isplitr; · iexact HR
    isplitl [HO]; · iexact HO
    isplitl [Hs]; · iexact Hs
    isplitl [Hd]; · iexact Hd
    isplitl [Ht1] <;> iassumption
  iintro ⟨HO, Hc⟩
  iapply Hk
  isplitl [HO]; · iexact HO
  isplitl [Hs']; · iexact Hs'
  isplitl [Hr]; · iexact Hr
  isplitl [Hc] <;> iassumption

end

/-! ## Loads and stores -/

section
variable (c : Dev nD)

/-- A rectangle of a buffer loaded, the buffer's slice there being owned: what the slice holds. -/
theorem load_part {α : Type} {Q : α → sProp 𝕄} {s : Shape} {e : EltTy} (M : Memref sig .tc .vmem s e) {o o' z : Fin s.rank → ℕ} {h : ∀ a, o a + z a ≤ s.size a} (h' : ∀ a, o' a + z a ≤ s.size a) (ho : o = o')
    {q : PosShare TreeShare} {X : (Rect.unit o' z h').shape.Idx → Elt F e} {hl : M.view.LoadsAt (Rect.unit o z h).toLoadRect}
    {k : ((Rect.unit o z h).toLoadRect.shape.Idx → Elt F e) → Prog (TpuEff nD τ sig (Elt F) Λ₀ .tc) α} :
    owns (c : Thread nD τ) (M.slice (Rect.unit o' z h') (fun _ => rfl)) q X
      ⊢ iprop((owns (c : Thread nD τ) (M.slice (Rect.unit o' z h') (fun _ => rfl)) q X -∗ run (F := F) c (k X) Q)
        -∗ run (F := F) c (.op (.load M (Rect.unit o z h).toLoadRect hl) k) Q) := by
  subst ho
  unfold owns
  iintro ⟨%f, %hf, H⟩ Hk
  iapply (wp_load_rect 𝒱₀ (c : Thread nD τ) none Set.univ (m := M) (r := Rect.unit o z h) (Finset.Subset.refl _)) $$ H
  iintro H
  rw [← hf]
  iapply Hk
  iexists f; isplitr
  · ipureintro; rfl
  · iexact H

omit [FloatOps F] in
theorem owns_access {s : Shape} {e : EltTy} (M : Memref sig .tc .vmem s e) (r : Rect s) (h) (q : PosShare TreeShare) (X : r.shape.Idx → Elt F e) :
    (owns (c : Thread nD τ) (M.slice r h) q X : sProp 𝕄)
      = iprop(∃ f, ⌜(M.access r).read (Elt F) f = X⌝ ∗ ((M.access r).loc (c : Thread nD τ) ↦[(M.access r).setOn Finset.univ]{q} f)) := by
  rw [View.setOn_univ]; rfl

/-- A rectangle loaded for nothing and then stored. -/
theorem put_part {α : Type} {Q : α → sProp 𝕄} {s : Shape} {e : EltTy} (M : Memref sig .tc .vmem s e) {o o' z : Fin s.rank → ℕ} {h : ∀ a, o a + z a ≤ s.size a} (h' : ∀ a, o' a + z a ≤ s.size a) (ho : o = o')
    {hl : M.view.LoadsAt (Rect.unit o z h).toLoadRect}
    {w : (Rect.unit o z h).shape.Idx → Elt F e} {hx : (M.access (Rect.unit o z h)).Stores Finset.univ} {hm}
    {k : PUnit → Prog (TpuEff nD τ sig (Elt F) Λ₀ .tc) α} :
    iprop(∃ X : (Rect.unit o' z h').shape.Idx → Elt F e, owns (c : Thread nD τ) (M.slice (Rect.unit o' z h') (fun _ => rfl)) fullShare X)
      ⊢ iprop((owns (c : Thread nD τ) (M.slice (Rect.unit o' z h') (fun _ => rfl)) fullShare w -∗ run (F := F) c (k ⟨⟩) Q)
        -∗ run (F := F) c (.op (.load M (Rect.unit o z h).toLoadRect hl) fun _ => .op (.store M (Rect.unit o z h) w Finset.univ hx hm) k) Q) := by
  subst ho
  iintro ⟨%Y, H⟩ Hk
  iapply (load_part c M h rfl) $$ H
  rw [owns_access c M _ _ fullShare Y, owns_access c M _ _ fullShare w]
  iintro ⟨%f, %hf, H⟩
  iapply (wp_store 𝒱₀ (c : Thread nD τ) none Set.univ (m := M) (r := Rect.unit o z h) (Mk := Finset.univ) (Finset.Subset.refl _)) $$ H
  iintro H
  iapply Hk
  iexists _; isplitr
  rotate_left
  · iexact H
  · ipureintro
    exact View.read_write_univ _ _

end

end Cert.Exchange

end
-- ==== Proof.Phases.lean ====
/-
# 01_k — the phases of the body

What a device holds during each phase, as it stands after `n` of the seven pairs, and each step of a phase as a lemma that
turns it from `n` to `n + 1`: the barrier, the first exchange's transfers and landings, the second's, the waits for what was
sent, and the exit.
-/
module

public import proofs.«01_k».proof.Proof.Steps

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The cells and their levels: what stays known throughout. -/
def know (K : Dev nD × CI → ℕ) : sProp 𝕄 := iprop(recs m K ∗ levAts L lv)
instance know_persistent (K : Dev nD × CI → ℕ) : BI.Persistent (know m K) := by unfold know; infer_instance

/-! ## The phases -/

/-- The barriers raised so far. -/
def atBar (c : Dev nD) (n : ℕ) : sProp 𝕄 := iprop(ow c n ∗ rest (barTok c) n)
/-- The first exchange's transfers under way. -/
def atOne (c : Dev nD) (n : ℕ) : sProp 𝕄 := iprop(ow c (7 + n) ∗ rest (oneTok c) n ∗ done (crTok c 0) n)
/-- The first exchange's landings in. -/
def inOne (c : Dev nD) (n n' : ℕ) : sProp 𝕄 :=
  iprop(ow c 14 ∗ rest (wantTok c 1) n ∗ done (hadTok c 1) n ∗ done (freeSlot lndM c) n')
/-- The second exchange's transfers under way. -/
def atTwo (c : Dev nD) (n : ℕ) : sProp 𝕄 :=
  iprop(ow c (14 + n) ∗ owns (c : Thread nD τ) redM (left n) (redb m c) ∗ rest (twoTok c) n ∗ done (crTok c 2) n)
/-- The second exchange's landings in. -/
def inTwo (c : Dev nD) (n n' : ℕ) : sProp 𝕄 :=
  iprop(ow c 21 ∗ rest (wantTok c 3) n ∗ done (hadTok c 3) n ∗ done (freeSlot gatM c) n')
/-- The blocks of the result: not yet written, and written. -/
def openCol (c : Dev nD) (j : Fin 7) : sProp 𝕄 := iprop(∃ X : S256x128.Idx → Elt F .f32, owns (c : Thread nD τ) (colM (prv j c)) fullShare X)
def fullCol (c : Dev nD) (j : Fin 7) : sProp 𝕄 := owns (c : Thread nD τ) (colM (prv j c)) fullShare (blockOf m c (prv j c))
def filled (c : Dev nD) (n : ℕ) : sProp 𝕄 := iprop(rest (openCol c) n ∗ done (fullCol m c) n)
/-- What was sent is back: of the first exchange, of the second. -/
def backOne (c : Dev nD) (n : ℕ) : sProp 𝕄 :=
  iprop(rest (wantTok c 0) n ∗ done (hadTok c 0) n ∗ done (freeSlot sndM c) n)
def backTwo (c : Dev nD) (n : ℕ) : sProp 𝕄 :=
  iprop(rest (wantTok c 2) n ∗ done (hadTok c 2) n ∗ done (fun j => owns (c : Thread nD τ) redM (left j.val).left (redb m c)) n)
/-- The exits raised so far. -/
def atExit (c : Dev nD) (n : ℕ) : sProp 𝕄 := iprop(ow c (21 + n) ∗ rest (exitTok c) n)

section
variable (K : Dev nD × CI → ℕ) (c : Dev nD)

omit [FloatOps F] in
theorem done_push {Φ : Fin 7 → sProp 𝕄} (j : Fin 7) {n : ℕ} (hn : j.val = n) {P : sProp 𝕄} (h : P ⊢ Φ j) : P ⊢ iprop(done Φ n -∗ done Φ (n + 1)) := by
  rw [done_step Φ j hn]
  iintro HP Hd
  isplitl [HP]; · iapply h; iexact HP
  iexact Hd

/-! ## Their steps -/

theorem bar_step {α : Type} {Q : α → sProp 𝕄} {k : PUnit → Prog (TpuEff nD τ sig (Elt F) Λ₀ .tc) α} (j : Fin 7) {n : ℕ} (hn : j.val = n)
    {dn : Dev nD} (hd : dn = nxt j c) {s : Sem sig} (hs : s = barS) {k' : ℕ} (hk : k' = 1) :
    know m K ⊢ iprop(atBar c n -∗ (atBar c (n + 1) -∗ run (F := F) c (k ⟨⟩) Q)
      -∗ run (F := F) c (.op (.semSignal (Dev.tc dn : Thread nD τ) s k') k) Q) := by
  unfold know atBar
  iintro ⟨#HR, #HL⟩ ⟨HO, Hr⟩ Hk
  iapply (bar_signal m K c j hn hd hs hk) $$ [HO Hr]
  · isplitr; · iexact HR
    isplitl [HO] <;> iassumption
  iexact Hk

theorem exit_step {α : Type} {Q : α → sProp 𝕄} {k : PUnit → Prog (TpuEff nD τ sig (Elt F) Λ₀ .tc) α} (j : Fin 7) {n : ℕ} (hn : j.val = n)
    {dn : Dev nD} (hd : dn = nxt j c) {s : Sem sig} (hs : s = exitS) {k' : ℕ} (hk : k' = 1) :
    know m K ⊢ iprop(atExit c n -∗ (atExit c (n + 1) -∗ run (F := F) c (k ⟨⟩) Q)
      -∗ run (F := F) c (.op (.semSignal (Dev.tc dn : Thread nD τ) s k') k) Q) := by
  unfold know atExit
  iintro ⟨#HR, #HL⟩ ⟨HO, Hr⟩ Hk
  iapply (exit_signal m K c j hn rfl hd hs hk) $$ [HO Hr]
  · isplitr; · iexact HR
    isplitl [HO] <;> iassumption
  iexact Hk

/-- The seven landing pairs that the barrier brings, by whose slots they are. -/
theorem landing_of_bar : (bigSep Finset.univ fun d => pay m c (.inl 0) d : sProp 𝕄)
    = iprop((bigSep Finset.univ fun j => freeSlot lndM (nxt j c) j) ∗ bigSep Finset.univ fun j => freeSlot gatM (nxt j c) j) := by
  rw [← bigSep_sep', bigSep_univ_equiv oppE.symm]
  refine bigSep_congr fun j _ => ?_
  show barPay c (opp j) = _
  unfold barPay; rw [opp_opp]

/-- The barrier's wait: the landing slots of the seven others. -/
theorem bar_wait {α : Type} {Q : α → sProp 𝕄} {k : PUnit → Prog (TpuEff nD τ sig (Elt F) Λ₀ .tc) α} {s : Sem sig} (hs : s = barS) {k' : ℕ} (hk : k' = 7) :
    know m K ⊢ iprop(atBar c 7 -∗ (cred (tallyAt (kcell c (.inl 0)) () 7) ∗ atPos ER (kcell c (.inl 0)) 0 ∅ 0)
      -∗ ((ow c 7 ∗ atPos ER (kcell c (.inl 0)) 1 ∅ 0 ∗ (bigSep Finset.univ fun j => freeSlot lndM (nxt j c) j) ∗ bigSep Finset.univ fun j => freeSlot gatM (nxt j c) j)
        -∗ run (F := F) c (k ⟨⟩) Q)
      -∗ run (F := F) c (.op (.semWait s k') k) Q) := by
  unfold know atBar
  iintro ⟨#HR, #HL⟩ ⟨HO, -⟩ ⟨Hc, Ha⟩ Hk
  iapply (reg_wait m K c 0 (n := 7) (by decide) (by rw [hs]; rfl) hk) $$ [HO Hc Ha]
  · isplitr; · iexact HR
    isplitr; · iexact HL
    isplitl [HO]; · iexact HO
    isplitl [Hc] <;> iassumption
  rw [landing_of_bar]
  iexact Hk

theorem exit_wait {α : Type} {Q : α → sProp 𝕄} {k : PUnit → Prog (TpuEff nD τ sig (Elt F) Λ₀ .tc) α} {s : Sem sig} (hs : s = exitS) {k' : ℕ} (hk : k' = 7) :
    know m K ⊢ iprop(atExit c 7 -∗ (cred (tallyAt (kcell c (.inl 1)) () 7) ∗ atPos ER (kcell c (.inl 1)) 0 ∅ 0)
      -∗ ((ow c 28 ∗ atPos ER (kcell c (.inl 1)) 1 ∅ 0) -∗ run (F := F) c (k ⟨⟩) Q)
      -∗ run (F := F) c (.op (.semWait s k') k) Q) := by
  unfold know atExit
  iintro ⟨#HR, #HL⟩ ⟨HO, -⟩ ⟨Hc, Ha⟩ Hk
  iapply (reg_wait m K c 1 (n := 28) (by decide) (by rw [hs]; rfl) hk) $$ [HO Hc Ha]
  · isplitr; · iexact HR
    isplitr; · iexact HL
    isplitl [HO]; · iexact HO
    isplitl [Hc] <;> iassumption
  iintro ⟨HO, Ha, -⟩
  iapply Hk
  isplitl [HO] <;> iassumption

theorem one_step {α : Type} {Q : α → sProp 𝕄} {k : PUnit → Prog (TpuEff nD τ sig (Elt F) Λ₀ .tc) α} (j : Fin 7) {n : ℕ} (hn : j.val = n) {dn : Dev nD} (ht : dn = nxt j c)
    {src dst : Memref sig .tc .vmem S256x128 .bf16} (h1 : src = slotQ sndM j) (h2 : dst = slotQ lndM j)
    {s1 s2 : DmaSem sig} (h3 : s1 = xsem 0 j) (h4 : s2 = xsem 1 j)
    {hsc : (dst : Memref sig (Dev.tc dn : Thread nD τ).2.kind .vmem S256x128 .bf16).view.ref.isScScratch = false}
    {hsrc : src.view.WordExact} {hdst : dst.view.WordExact}
    {hsem : DmaTarget.Typed .vmem (.dma s2) (.remote (Dev.tc dn : Thread nD τ) dst (.dma s1) hsc)} :
    know m K ⊢ iprop(atOne c n -∗ owns (c : Thread nD τ) (slot sndM j) fullShare (msg m c j) -∗ (atOne c (n + 1) -∗ run (F := F) c (k ⟨⟩) Q)
      -∗ run (F := F) c (.op (.enqueueDma src (.remote (Dev.tc dn : Thread nD τ) dst (.dma s1) hsc) (.dma s2) hsrc hdst hsem) k) Q) := by
  unfold know atOne
  iintro ⟨#HR, #HL⟩ ⟨HO, Hr, Hd⟩ Hs Hk
  iapply (send_one m K c j hn rfl ht h1 h2 h3 h4) $$ [HO Hr Hd Hs]
  · isplitr; · iexact HR
    isplitl [HO]; · iexact HO
    isplitl [Hs]; · iexact Hs
    isplitl [Hr] <;> iassumption
  iexact Hk

theorem two_step {α : Type} {Q : α → sProp 𝕄} {k : PUnit → Prog (TpuEff nD τ sig (Elt F) Λ₀ .tc) α} (j : Fin 7) {n : ℕ} (hn : j.val = n) {dn : Dev nD} (ht : dn = nxt j c)
    {src dst : Memref sig .tc .vmem S256x128 .bf16} (h1 : src = redM) (h2 : dst = slotQ gatM j)
    {s1 s2 : DmaSem sig} (h3 : s1 = xsem 2 j) (h4 : s2 = xsem 3 j)
    {hsc : (dst : Memref sig (Dev.tc dn : Thread nD τ).2.kind .vmem S256x128 .bf16).view.ref.isScScratch = false}
    {hsrc : src.view.WordExact} {hdst : dst.view.WordExact}
    {hsem : DmaTarget.Typed .vmem (.dma s2) (.remote (Dev.tc dn : Thread nD τ) dst (.dma s1) hsc)} :
    know m K ⊢ iprop(atTwo m c n -∗ (atTwo m c (n + 1) -∗ run (F := F) c (k ⟨⟩) Q)
      -∗ run (F := F) c (.op (.enqueueDma src (.remote (Dev.tc dn : Thread nD τ) dst (.dma s1) hsc) (.dma s2) hsrc hdst hsem) k) Q) := by
  unfold know atTwo
  iintro ⟨#HR, #HL⟩ ⟨HO, Hs, Hr, Hd⟩ Hk
  iapply (send_two m K c j hn rfl ht h1 h2 h3 h4) $$ [HO Hr Hd Hs]
  · isplitr; · iexact HR
    isplitl [HO]; · iexact HO
    isplitl [Hs]; · iexact Hs
    isplitl [Hr] <;> iassumption
  iexact Hk

theorem inOne_step {α : Type} {Q : α → sProp 𝕄} {k : PUnit → Prog (TpuEff nD τ sig (Elt F) Λ₀ .tc) α} (j : Fin 7) {n n' : ℕ} (hn : j.val = n) {q : DmaSem sig} (hq : q = xsem 1 j)
    {sp sp' : Space} {s s' : Shape} {e e' : EltTy} {src : Memref sig .tc sp' s' e'} {dst : Memref sig .tc sp s e} (hN : dst.view.dmaCredit = N)
    {hsrc : src.view.WordExact} {hdst : dst.view.WordExact} :
    know m K ⊢ iprop(inOne c n n' -∗ ((inOne c (n + 1) n' ∗ owns (c : Thread nD τ) (slot lndM j) fullShare (got m c j)) -∗ run (F := F) c (k ⟨⟩) Q)
      -∗ run (F := F) c (.op (.waitDma2 q src dst hsrc hdst) k) Q) := by
  unfold know inOne
  iintro ⟨#HR, #HL⟩ ⟨HO, Hr, Hd, Hf⟩ Hk
  iapply (xfer_wait m K c 1 j hn (o := 14) (show 2 ≤ 14 / 7 by decide) hq hN) $$ [HO Hr Hd]
  · isplitr; · iexact HR
    isplitr; · iexact HL
    isplitl [HO]; · iexact HO
    isplitl [Hr] <;> iassumption
  iintro ⟨HO, Hr, Hd, Hp⟩
  iapply Hk
  isplitr [Hp]
  · isplitl [HO]; · iexact HO
    isplitl [Hr]; · iexact Hr
    isplitl [Hd] <;> iassumption
  unfold xPay; iexact Hp

theorem inTwo_step {α : Type} {Q : α → sProp 𝕄} {k : PUnit → Prog (TpuEff nD τ sig (Elt F) Λ₀ .tc) α} (j : Fin 7) {n n' : ℕ} (hn : j.val = n) {q : DmaSem sig} (hq : q = xsem 3 j)
    {sp sp' : Space} {s s' : Shape} {e e' : EltTy} {src : Memref sig .tc sp' s' e'} {dst : Memref sig .tc sp s e} (hN : dst.view.dmaCredit = N)
    {hsrc : src.view.WordExact} {hdst : dst.view.WordExact} :
    know m K ⊢ iprop(inTwo c n n' -∗ ((inTwo c (n + 1) n' ∗ owns (c : Thread nD τ) (slot gatM j) fullShare (lead (redb m (prv j c)))) -∗ run (F := F) c (k ⟨⟩) Q)
      -∗ run (F := F) c (.op (.waitDma2 q src dst hsrc hdst) k) Q) := by
  unfold know inTwo
  iintro ⟨#HR, #HL⟩ ⟨HO, Hr, Hd, Hf⟩ Hk
  iapply (xfer_wait m K c 3 j hn (o := 21) (show 3 ≤ 21 / 7 by decide) hq hN) $$ [HO Hr Hd]
  · isplitr; · iexact HR
    isplitr; · iexact HL
    isplitl [HO]; · iexact HO
    isplitl [Hr] <;> iassumption
  iintro ⟨HO, Hr, Hd, Hp⟩
  iapply Hk
  isplitr [Hp]
  · isplitl [HO]; · iexact HO
    isplitl [Hr]; · iexact Hr
    isplitl [Hd] <;> iassumption
  unfold xPay; iexact Hp

theorem backOne_step {α : Type} {Q : α → sProp 𝕄} {k : PUnit → Prog (TpuEff nD τ sig (Elt F) Λ₀ .tc) α} (j : Fin 7) {n o : ℕ} (hn : j.val = n) {q : DmaSem sig} (hq : q = xsem 0 j)
    {sp sp' : Space} {s s' : Shape} {e e' : EltTy} {src : Memref sig .tc sp' s' e'} {dst : Memref sig .tc sp s e} (hN : dst.view.dmaCredit = N)
    {hsrc : src.view.WordExact} {hdst : dst.view.WordExact} :
    know m K ⊢ iprop(ow c o -∗ backOne c n -∗ ((ow c o ∗ backOne c (n + 1)) -∗ run (F := F) c (k ⟨⟩) Q)
      -∗ run (F := F) c (.op (.waitDma2 q src dst hsrc hdst) k) Q) := by
  unfold know backOne
  iintro ⟨#HR, #HL⟩ HO ⟨Hr, Hd, Hf⟩ Hk
  iapply (xfer_wait m K c 0 j hn (o := o) (Nat.zero_le _) hq hN) $$ [HO Hr Hd]
  · isplitr; · iexact HR
    isplitr; · iexact HL
    isplitl [HO]; · iexact HO
    isplitl [Hr] <;> iassumption
  iintro ⟨HO, Hr, Hd, Hp⟩
  iapply Hk
  isplitl [HO]; · iexact HO
  isplitl [Hr]; · iexact Hr
  isplitl [Hd]; · iexact Hd
  iapply (done_push j hn (P := xPay m c 0 j) (show xPay m c 0 j ⊢ freeSlot sndM c j from by unfold xPay freeSlot; iintro H; iexists _; iexact H)) $$ Hp Hf

theorem backTwo_step {α : Type} {Q : α → sProp 𝕄} {k : PUnit → Prog (TpuEff nD τ sig (Elt F) Λ₀ .tc) α} (j : Fin 7) {n o : ℕ} (hn : j.val = n) {q : DmaSem sig} (hq : q = xsem 2 j)
    {sp sp' : Space} {s s' : Shape} {e e' : EltTy} {src : Memref sig .tc sp' s' e'} {dst : Memref sig .tc sp s e} (hN : dst.view.dmaCredit = N)
    {hsrc : src.view.WordExact} {hdst : dst.view.WordExact} :
    know m K ⊢ iprop(ow c o -∗ backTwo m c n -∗ ((ow c o ∗ backTwo m c (n + 1)) -∗ run (F := F) c (k ⟨⟩) Q)
      -∗ run (F := F) c (.op (.waitDma2 q src dst hsrc hdst) k) Q) := by
  unfold know backTwo
  iintro ⟨#HR, #HL⟩ HO ⟨Hr, Hd, Hf⟩ Hk
  iapply (xfer_wait m K c 2 j hn (o := o) (Nat.zero_le _) hq hN) $$ [HO Hr Hd]
  · isplitr; · iexact HR
    isplitr; · iexact HL
    isplitl [HO]; · iexact HO
    isplitl [Hr] <;> iassumption
  iintro ⟨HO, Hr, Hd, Hp⟩
  iapply Hk
  isplitl [HO]; · iexact HO
  isplitl [Hr]; · iexact Hr
  isplitl [Hd]; · iexact Hd
  iapply (done_push j hn (Φ := fun j => owns (c : Thread nD τ) redM (left j.val).left (redb m c)) (P := xPay m c 2 j) (Entails.of_eq rfl)) $$ Hp Hf

/-! ## Loads and stores of slots and blocks -/

/-- The landing slot `j` of the first exchange loaded. -/
theorem load_one {α : Type} {Q : α → sProp 𝕄} (j : Fin 7) {n n' : ℕ} (hn : j.val = n') {o : Fin 3 → ℕ} (ho : o = ![j.val, 0, 0]) {h : ∀ a, o a + S1x256x128.size a ≤ S7x256x128.size a}
    {hl : lndM.view.LoadsAt (Rect.unit (s := S7x256x128) o S1x256x128.size h).toLoadRect}
    {k : Vec F S1x256x128 .bf16 → Prog (TpuEff nD τ sig (Elt F) Λ₀ .tc) α} :
    owns (c : Thread nD τ) (slot lndM j) fullShare (got m c j)
      ⊢ iprop(inOne c n n' -∗ (inOne c n (n' + 1) -∗ run (F := F) c (k (got m c j)) Q)
        -∗ run (F := F) c (.op (.load lndM (Rect.unit (s := S7x256x128) o S1x256x128.size h).toLoadRect hl) k) Q) := by
  unfold inOne
  iintro Hs ⟨HO, Hr, Hd, Hf⟩ Hk
  iapply (load_part c lndM (slot_inb j) ho) $$ Hs
  iintro Hs
  iapply Hk
  isplitl [HO]; · iexact HO
  isplitl [Hr]; · iexact Hr
  isplitl [Hd]; · iexact Hd
  iapply (done_push j hn (P := owns (c : Thread nD τ) (slot lndM j) fullShare (got m c j))
    (show (_ : sProp 𝕄) ⊢ freeSlot lndM c j from by unfold freeSlot; iintro H; iexists _; iexact H)) $$ Hs Hf

theorem load_two {α : Type} {Q : α → sProp 𝕄} (j : Fin 7) {n n' : ℕ} (hn : j.val = n') {o : Fin 3 → ℕ} (ho : o = ![j.val, 0, 0]) {h : ∀ a, o a + S1x256x128.size a ≤ S7x256x128.size a}
    {hl : gatM.view.LoadsAt (Rect.unit (s := S7x256x128) o S1x256x128.size h).toLoadRect} {X : S1x256x128.Idx → Elt F .bf16}
    {k : Vec F S1x256x128 .bf16 → Prog (TpuEff nD τ sig (Elt F) Λ₀ .tc) α} :
    owns (c : Thread nD τ) (slot gatM j) fullShare X
      ⊢ iprop(inTwo c n n' -∗ (inTwo c n (n' + 1) -∗ run (F := F) c (k X) Q)
        -∗ run (F := F) c (.op (.load gatM (Rect.unit (s := S7x256x128) o S1x256x128.size h).toLoadRect hl) k) Q) := by
  unfold inTwo
  iintro Hs ⟨HO, Hr, Hd, Hf⟩ Hk
  iapply (load_part c gatM (slot_inb j) ho) $$ Hs
  iintro Hs
  iapply Hk
  isplitl [HO]; · iexact HO
  isplitl [Hr]; · iexact Hr
  isplitl [Hd]; · iexact Hd
  iapply (done_push j hn (P := owns (c : Thread nD τ) (slot gatM j) fullShare X)
    (show (_ : sProp 𝕄) ⊢ freeSlot gatM c j from by unfold freeSlot; iintro H; iexists _; iexact H)) $$ Hs Hf

/-- Slot `j` of the send buffer filled. -/
theorem put_msg {α : Type} {Q : α → sProp 𝕄} (j : Fin 7) {n : ℕ} (hn : j.val = n) {o : Fin 3 → ℕ} (ho : o = ![j.val, 0, 0]) {h : ∀ a, o a + S1x256x128.size a ≤ S7x256x128.size a}
    {hl : sndM.view.LoadsAt (Rect.unit (s := S7x256x128) o S1x256x128.size h).toLoadRect}
    {w : (Rect.unit (s := S7x256x128) o S1x256x128.size h).shape.Idx → Elt F .bf16} (hw : w = msg m c j)
    {hx : (sndM.access (Rect.unit (s := S7x256x128) o S1x256x128.size h)).Stores Finset.univ} {hm}
    {k : PUnit → Prog (TpuEff nD τ sig (Elt F) Λ₀ .tc) α} :
    rest (freeSlot sndM c) n
      ⊢ iprop(((owns (c : Thread nD τ) (slot sndM j) fullShare (msg m c j) ∗ rest (freeSlot sndM c) (n + 1)) -∗ run (F := F) c (k ⟨⟩) Q)
        -∗ run (F := F) c (.op (.load sndM (Rect.unit (s := S7x256x128) o S1x256x128.size h).toLoadRect hl) fun _ =>
            .op (.store sndM (Rect.unit (s := S7x256x128) o S1x256x128.size h) w Finset.univ hx hm) k) Q) := by
  subst hw
  rw [rest_step (freeSlot sndM c) j hn]
  iintro ⟨Hs, Hr⟩ Hk
  iapply (put_part c sndM (slot_inb j) ho) $$ [Hs]
  · unfold freeSlot; iexact Hs
  iintro Hs
  iapply Hk
  isplitl [Hs] <;> iassumption

/-- Block `prv j c` of the result filled. -/
theorem put_block {α : Type} {Q : α → sProp 𝕄} (j : Fin 7) {n : ℕ} (hn : j.val = n) {o : Fin 2 → ℕ} (ho : o = ![0, 128 * (prv j c).val]) {h : ∀ a, o a + S256x128.size a ≤ S256x1024.size a}
    {hl : outM.view.LoadsAt (Rect.unit (s := S256x1024) o S256x128.size h).toLoadRect}
    {w : (Rect.unit (s := S256x1024) o S256x128.size h).shape.Idx → Elt F .f32} (hw : w = blockOf m c (prv j c))
    {hx : (outM.access (Rect.unit (s := S256x1024) o S256x128.size h)).Stores Finset.univ} {hm}
    {k : PUnit → Prog (TpuEff nD τ sig (Elt F) Λ₀ .tc) α} :
    filled m c n
      ⊢ iprop((filled m c (n + 1) -∗ run (F := F) c (k ⟨⟩) Q)
        -∗ run (F := F) c (.op (.load outM (Rect.unit (s := S256x1024) o S256x128.size h).toLoadRect hl) fun _ =>
            .op (.store outM (Rect.unit (s := S256x1024) o S256x128.size h) w Finset.univ hx hm) k) Q) := by
  subst hw
  unfold filled
  rw [rest_step (openCol c) j hn, done_step (fullCol m c) j hn]
  iintro ⟨⟨Hs, Hr⟩, Hd⟩ Hk
  iapply (put_part c outM (col_inb (prv j c)) ho) $$ [Hs]
  · unfold openCol; iexact Hs
  iintro Hs
  iapply Hk
  isplitl [Hr]; · iexact Hr
  isplitl [Hs]
  · unfold fullCol; iexact Hs
  iexact Hd

/-- The columns of the output projection that are device `k`'s, loaded. -/
theorem load_wo {α : Type} {Q : α → sProp 𝕄} (d : Dev nD) {o : Fin 2 → ℕ} (ho : o = ![0, 128 * d.val]) {h : ∀ a, o a + S1024x128.size a ≤ S1024x1024.size a}
    {hl : (Memref.whole cc0_stg2_0 : Memref sig .tc .vmem S1024x1024 .bf16).view.LoadsAt (Rect.unit (s := S1024x1024) o S1024x128.size h).toLoadRect}
    {k : Vec F S1024x128 .bf16 → Prog (TpuEff nD τ sig (Elt F) Λ₀ .tc) α} :
    (((c : Thread nD τ).loc cc0_stg2_0) ↦{fullShare} stg2 m c : sProp 𝕄)
      ⊢ iprop(((((c : Thread nD τ).loc cc0_stg2_0) ↦{fullShare} stg2 m c) -∗ run (F := F) c (k (wov m c d)) Q)
        -∗ run (F := F) c (.op (.load (Memref.whole cc0_stg2_0 : Memref sig .tc .vmem S1024x1024 .bf16) (Rect.unit (s := S1024x1024) o S1024x128.size h).toLoadRect hl) k) Q) := by
  subst ho
  iintro H Hk
  iapply (wp_load 𝒱₀ (c : Thread nD τ) none Set.univ (m := (Memref.whole cc0_stg2_0 : Memref sig .tc .vmem S1024x1024 .bf16)) (Finset.subset_univ _)) $$ H
  iexact Hk

end

end Cert.Exchange

end
-- ==== Proof.Parts.lean ====
/-
# 01_k — the body part by part

The body is printed in twenty-three parts, cut without regard to the phases; here each part takes what the device holds
before it to what it holds after it.
-/
module

public import proofs.«01_k».proof.Proof.Phases

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- A function of the body's arguments at the arguments the launch passes. -/
abbrev atArgs {β : Sort*} (p : (arg0 : Memref sig .tc .vmem S256x1024 .bf16) → arg0.IsWhole → (arg1 : Memref sig .tc .vmem S1024x1024 .bf16) → arg1.IsWhole
    → (arg2 : Memref sig .tc .vmem S1024x1024 .bf16) → arg2.IsWhole → (arg3 : Memref sig .tc .vmem S4096x1024 .bf16) → arg3.IsWhole
    → (arg4 : Memref sig .tc .vmem S4096x1024 .bf16) → arg4.IsWhole → (arg5 : Memref sig .tc .vmem S256x1024 .f32) → arg5.IsWhole
    → (arg6 : Memref sig .tc .vmem S7x256x128 .bf16) → arg6.IsWhole → (arg7 : Memref sig .tc .vmem S256x128 .bf16) → arg7.IsWhole
    → (arg8 : Memref sig .tc .vmem S7x256x128 .bf16) → arg8.IsWhole → (arg9 : Memref sig .tc .vmem S7x256x128 .bf16) → arg9.IsWhole
    → DmaSems sig S7 → DmaSems sig S7 → DmaSems sig S7 → DmaSems sig S7 → Sems sig S_ → β) : β :=
  p (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole cc0_stg4_0) (Memref.isWhole_whole _) (Memref.whole cc0_stg5_0) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) cc0_scratch4 cc0_scratch5 cc0_scratch6 cc0_scratch7 cc0_scoped0

/-- A whole buffer of device `c`, holding `X`. -/
abbrev held (c : Dev nD) (b : Ref sig .tc) (X : b.ty.Contents (Elt F)) : sProp 𝕄 := iprop(((c : Thread nD τ).loc b) ↦{fullShare} X)

theorem dv {c : Dev nD} {j : Fin 7} {x : ℕ} (h : x < nD) (e : x = (c.val + (j.val + 1)) % 8) : (⟨x, h⟩ : Dev nD) = nxt j c := Fin.ext e
theorem off_wo (c : Dev nD) (j : Fin 7) : k0_off1 c (BitVec.ofNat 32 (1 + j.val)) = ![0, 128 * (nxt j c).val] := k0_off1_eq c j
theorem off_col (c : Dev nD) (j : Fin 7) : k0_off4 c (BitVec.ofNat 32 (1 + j.val)) = ![0, 128 * (prv j c).val] := k0_off4_eq c j

section
variable (K : Dev nD × CI → ℕ) (c : Dev nD)

theorem ret_run {α : Type} {Q : α → sProp 𝕄} (a : α) : Q a ⊢ run (F := F) c (.ret a) Q := by
  unfold run; rw [wp_ret]; iintro H; imodintro; iexact H

/-- Columns of `K`'s block loaded, of `V`'s block. -/
theorem load_k {α : Type} {Q : α → sProp 𝕄} {o : ℕ} {h : ∀ a, (![0, o] : Fin 2 → ℕ) a + S4096x128.size a ≤ S4096x1024.size a}
    {hl : (Memref.whole cc0_stg3_0 : Memref sig .tc .vmem S4096x1024 .bf16).view.LoadsAt (Rect.unit (s := S4096x1024) ![0, o] S4096x128.size h).toLoadRect}
    {k : Vec F S4096x128 .bf16 → Prog (TpuEff nD τ sig (Elt F) Λ₀ .tc) α} :
    held c cc0_stg3_0 (stg3 m c) ⊢ iprop((held c cc0_stg3_0 (stg3 m c) -∗ run (F := F) c (k (kv m c o h)) Q)
        -∗ run (F := F) c (.op (.load (Memref.whole cc0_stg3_0 : Memref sig .tc .vmem S4096x1024 .bf16) (Rect.unit (s := S4096x1024) ![0, o] S4096x128.size h).toLoadRect hl) k) Q) := by
  iintro H Hk
  iapply (wp_load 𝒱₀ (c : Thread nD τ) none Set.univ (m := (Memref.whole cc0_stg3_0 : Memref sig .tc .vmem S4096x1024 .bf16)) (Finset.subset_univ _)) $$ H
  iexact Hk
theorem load_v {α : Type} {Q : α → sProp 𝕄} {o : ℕ} {h : ∀ a, (![0, o] : Fin 2 → ℕ) a + S4096x128.size a ≤ S4096x1024.size a}
    {hl : (Memref.whole cc0_stg4_0 : Memref sig .tc .vmem S4096x1024 .bf16).view.LoadsAt (Rect.unit (s := S4096x1024) ![0, o] S4096x128.size h).toLoadRect}
    {k : Vec F S4096x128 .bf16 → Prog (TpuEff nD τ sig (Elt F) Λ₀ .tc) α} :
    held c cc0_stg4_0 (stg4 m c) ⊢ iprop((held c cc0_stg4_0 (stg4 m c) -∗ run (F := F) c (k (vv m c o h)) Q)
        -∗ run (F := F) c (.op (.load (Memref.whole cc0_stg4_0 : Memref sig .tc .vmem S4096x1024 .bf16) (Rect.unit (s := S4096x1024) ![0, o] S4096x128.size h).toLoadRect hl) k) Q) := by
  iintro H Hk
  iapply (wp_load 𝒱₀ (c : Thread nD τ) none Set.univ (m := (Memref.whole cc0_stg4_0 : Memref sig .tc .vmem S4096x1024 .bf16)) (Finset.subset_univ _)) $$ H
  iexact Hk

theorem load_x {α : Type} {Q : α → sProp 𝕄}
    {hl : (Memref.whole cc0_stg0_0 : Memref sig .tc .vmem S256x1024 .bf16).view.LoadsAt (Rect.unit (s := S256x1024) ![0, 0] S256x1024.size inb_S256x1024_S256x1024_0_0).toLoadRect}
    {k : Vec F S256x1024 .bf16 → Prog (TpuEff nD τ sig (Elt F) Λ₀ .tc) α} :
    held c cc0_stg0_0 (stg0 m c) ⊢ iprop((held c cc0_stg0_0 (stg0 m c) -∗ run (F := F) c (k (xv m c)) Q)
        -∗ run (F := F) c (.op (.load (Memref.whole cc0_stg0_0 : Memref sig .tc .vmem S256x1024 .bf16) (Rect.unit (s := S256x1024) ![0, 0] S256x1024.size inb_S256x1024_S256x1024_0_0).toLoadRect hl) k) Q) := by
  iintro H Hk
  iapply (wp_load 𝒱₀ (c : Thread nD τ) none Set.univ (m := (Memref.whole cc0_stg0_0 : Memref sig .tc .vmem S256x1024 .bf16)) (Finset.subset_univ _)) $$ H
  iexact Hk
theorem load_wq {α : Type} {Q : α → sProp 𝕄}
    {hl : (Memref.whole cc0_stg1_0 : Memref sig .tc .vmem S1024x1024 .bf16).view.LoadsAt (Rect.unit (s := S1024x1024) ![0, 0] S1024x1024.size inb_S1024x1024_S1024x1024_0_0).toLoadRect}
    {k : Vec F S1024x1024 .bf16 → Prog (TpuEff nD τ sig (Elt F) Λ₀ .tc) α} :
    held c cc0_stg1_0 (stg1 m c) ⊢ iprop((held c cc0_stg1_0 (stg1 m c) -∗ run (F := F) c (k (wqv m c)) Q)
        -∗ run (F := F) c (.op (.load (Memref.whole cc0_stg1_0 : Memref sig .tc .vmem S1024x1024 .bf16) (Rect.unit (s := S1024x1024) ![0, 0] S1024x1024.size inb_S1024x1024_S1024x1024_0_0).toLoadRect hl) k) Q) := by
  iintro H Hk
  iapply (wp_load 𝒱₀ (c : Thread nD τ) none Set.univ (m := (Memref.whole cc0_stg1_0 : Memref sig .tc .vmem S1024x1024 .bf16)) (Finset.subset_univ _)) $$ H
  iexact Hk

theorem part1 {Q} :
    know m K ⊢ iprop(atBar c 0 -∗ (∀ v2 v24, atBar c 5 -∗ Q ⟨c, v2, SemArray.scalar (sig.barrier 0 rfl), v24, 8#32⟩)
      -∗ run (F := F) c (atArgs k0_part1) Q) := by
  rw [k0_part1_eq_skeleton]; unfold k0_part1_skel
  simp only [semSignalWord, Prog.lift, Prog.bind_op, Prog.bind_ret, Prog.pure_eq_ret, wp_deviceId]
  iintro #HK HA Hk
  iapply (bar_step m K c 0 (n := 0) rfl (dv (k0_dev1_lt c) (k0_dev1_eq c)) rfl rfl) $$ HK HA; iintro HA
  iapply (bar_step m K c 1 (n := 1) rfl (dv (k0_dev2_lt c) (k0_dev2_eq c)) rfl rfl) $$ HK HA; iintro HA
  iapply (bar_step m K c 2 (n := 2) rfl (dv (k0_dev3_lt c) (k0_dev3_eq c)) rfl rfl) $$ HK HA; iintro HA
  iapply (bar_step m K c 3 (n := 3) rfl (dv (k0_dev4_lt c) (k0_dev4_eq c)) rfl rfl) $$ HK HA; iintro HA
  iapply (bar_step m K c 4 (n := 4) rfl (dv (k0_dev5_lt c) (k0_dev5_eq c)) rfl rfl) $$ HK HA; iintro HA
  iapply (ret_run c); iapply Hk; iexact HA

theorem part2 {Q} (v2 v24 w : BitVec 32) (v3 : Sems sig S_) (h3 : v3.sem = barS) :
    know m K ⊢ iprop(atBar c 5 -∗ (cred (tallyAt (kcell c (.inl 0)) () 7) ∗ atPos ER (kcell c (.inl 0)) 0 ∅ 0)
      -∗ held c cc0_stg0_0 (stg0 m c) -∗ held c cc0_stg1_0 (stg1 m c) -∗ held c cc0_stg3_0 (stg3 m c) -∗ held c cc0_stg4_0 (stg4 m c)
      -∗ ((ow c 7 ∗ atPos ER (kcell c (.inl 0)) 1 ∅ 0 ∗ (bigSep Finset.univ fun j => freeSlot lndM (nxt j c) j) ∗ (bigSep Finset.univ fun j => freeSlot gatM (nxt j c) j)
          ∗ held c cc0_stg0_0 (stg0 m c) ∗ held c cc0_stg1_0 (stg1 m c) ∗ held c cc0_stg3_0 (stg3 m c) ∗ held c cc0_stg4_0 (stg4 m c))
        -∗ Q ⟨k0_pay1 (xv m c) (wqv m c), k0_pay2 (xv m c) (wqv m c) (kv m c 0 inb_S4096x1024_S4096x128_0_0) (vv m c 0 inb_S4096x1024_S4096x128_0_0), k0_pay3 (xv m c) (wqv m c)⟩)
      -∗ run (F := F) c (atArgs k0_part2 c v2 v3 v24 w) Q) := by
  rw [k0_part2_eq_skeleton]; unfold k0_part2_skel
  simp only [semSignalWord, semWaitWord, Prog.lift, Prog.bind_op, Prog.bind_ret, Prog.pure_eq_ret]
  iintro #HK HA HB H0 H1 H3 H4 Hk
  iapply (bar_step m K c 5 (n := 5) rfl (dv (k0_dev6_lt c) (k0_dev6_eq c)) h3 rfl) $$ HK HA; iintro HA
  iapply (bar_step m K c 6 (n := 6) rfl (dv (k0_dev7_lt c) (k0_dev7_eq c)) h3 rfl) $$ HK HA; iintro HA
  iapply (bar_wait m K c h3 rfl) $$ HK HA HB; iintro ⟨HO, HB, HL, HG⟩
  iapply (load_x m c) $$ H0; iintro H0
  iapply (load_wq m c) $$ H1; iintro H1
  iapply (load_k m c) $$ H3; iintro H3
  iapply (load_v m c) $$ H4; iintro H4
  iapply (ret_run c); iapply Hk
  isplitl [HO]; · iexact HO
  isplitl [HB]; · iexact HB
  isplitl [HL]; · iexact HL
  isplitl [HG]; · iexact HG
  isplitl [H0]; · iexact H0
  isplitl [H1]; · iexact H1
  isplitl [H3] <;> iassumption

theorem part3 {Q} (v36 : FVec F S256x1024 .f32) (v56 : FVec F S256x128 .bf16) :
    held c cc0_stg3_0 (stg3 m c) ⊢ iprop(held c cc0_stg4_0 (stg4 m c)
      -∗ ((held c cc0_stg3_0 (stg3 m c) ∗ held c cc0_stg4_0 (stg4 m c))
        -∗ Q ⟨k0_pay4 v56 (kv m c 128 inb_S4096x1024_S4096x128_0_128) (vv m c 128 inb_S4096x1024_S4096x128_0_128),
            k0_pay5 v36 (kv m c 256 inb_S4096x1024_S4096x128_0_256) (vv m c 256 inb_S4096x1024_S4096x128_0_256),
            k0_pay6 v36 (kv m c 384 inb_S4096x1024_S4096x128_0_384), k0_pay7 v36 (kv m c 384 inb_S4096x1024_S4096x128_0_384),
            vv m c 384 inb_S4096x1024_S4096x128_0_384⟩)
      -∗ run (F := F) c (atArgs k0_part3 v36 v56) Q) := by
  rw [k0_part3_eq_skeleton]; unfold k0_part3_skel
  simp only [Prog.lift, Prog.bind_op, Prog.bind_ret, Prog.pure_eq_ret]
  iintro H3 H4 Hk
  iapply (load_k m c) $$ H3; iintro H3
  iapply (load_v m c) $$ H4; iintro H4
  iapply (load_k m c) $$ H3; iintro H3
  iapply (load_v m c) $$ H4; iintro H4
  iapply (load_k m c) $$ H3; iintro H3
  iapply (load_v m c) $$ H4; iintro H4
  iapply (ret_run c); iapply Hk
  isplitl [H3] <;> iassumption

theorem part4 {Q} (v36 : FVec F S256x1024 .f32) (v92 : FVec F S256x4096 .f32) (v94 : FVec F S256x1 .f32) (v95 : Vec F S4096x128 .bf16) :
    held c cc0_stg3_0 (stg3 m c) ⊢ iprop(held c cc0_stg4_0 (stg4 m c)
      -∗ ((held c cc0_stg3_0 (stg3 m c) ∗ held c cc0_stg4_0 (stg4 m c))
        -∗ Q ⟨k0_pay8 v92 v94 v95, k0_pay9 v36 (kv m c 512 inb_S4096x1024_S4096x128_0_512) (vv m c 512 inb_S4096x1024_S4096x128_0_512),
            k0_pay10 v36 (kv m c 640 inb_S4096x1024_S4096x128_0_640) (vv m c 640 inb_S4096x1024_S4096x128_0_640), k0_pay11 v36⟩)
      -∗ run (F := F) c (atArgs k0_part4 v36 v92 v94 v95) Q) := by
  rw [k0_part4_eq_skeleton]; unfold k0_part4_skel
  simp only [Prog.lift, Prog.bind_op, Prog.bind_ret, Prog.pure_eq_ret]
  iintro H3 H4 Hk
  iapply (load_k m c) $$ H3; iintro H3
  iapply (load_v m c) $$ H4; iintro H4
  iapply (load_k m c) $$ H3; iintro H3
  iapply (load_v m c) $$ H4; iintro H4
  iapply (ret_run c); iapply Hk
  isplitl [H3] <;> iassumption

theorem part5 {Q} (v2 : BitVec 32) (v36 : FVec F S256x1024 .f32) (v52 v68 v84 v100 v116 v132 : FVec F S256x128 .f32) (v136 : FVec F S256x128 .bf16) :
    held c cc0_stg3_0 (stg3 m c) ⊢ iprop(held c cc0_stg4_0 (stg4 m c) -∗ held c cc0_stg2_0 (stg2 m c)
      -∗ (∀ v168, (held c cc0_stg3_0 (stg3 m c) ∗ held c cc0_stg4_0 (stg4 m c) ∗ held c cc0_stg2_0 (stg2 m c))
        -∗ Q ⟨k0_pay12 v36 v52 v68 v84 v100 v116 v132 v136 (kv m c 768 inb_S4096x1024_S4096x128_0_768) (vv m c 768 inb_S4096x1024_S4096x128_0_768)
              (kv m c 896 inb_S4096x1024_S4096x128_0_896) (vv m c 896 inb_S4096x1024_S4096x128_0_896), v168,
            k0_pay13 v36 v52 v68 v84 v100 v116 v132 v136 (kv m c 768 inb_S4096x1024_S4096x128_0_768) (vv m c 768 inb_S4096x1024_S4096x128_0_768)
              (kv m c 896 inb_S4096x1024_S4096x128_0_896) (vv m c 896 inb_S4096x1024_S4096x128_0_896) (wov m c (nxt 0 c))⟩)
      -∗ run (F := F) c (atArgs k0_part5 c v2 v36 v52 v68 v84 v100 v116 v132 v136) Q) := by
  rw [k0_part5_eq_skeleton]; unfold k0_part5_skel
  simp only [Prog.lift, Prog.bind_op, Prog.bind_ret, Prog.pure_eq_ret]
  iintro H3 H4 H2 Hk
  iapply (load_k m c) $$ H3; iintro H3
  iapply (load_v m c) $$ H4; iintro H4
  iapply (load_k m c) $$ H3; iintro H3
  iapply (load_v m c) $$ H4; iintro H4
  iapply (load_wo m c (nxt 0 c) (off_wo c 0)) $$ H2; iintro H2
  iapply (ret_run c); iapply Hk
  isplitl [H3]; · iexact H3
  isplitl [H4] <;> iassumption

theorem part6 {Q} (v2 : BitVec 32) (v166 : FVec F S256x1024 .bf16) (hv : v166 = heads m c) (v168 : BitVec 32) (v174 : FVec F S256x128 .bf16) (h0 : k0_pay14 v174 = msg m c 0) :
    know m K ⊢ iprop(atOne c 0 -∗ rest (freeSlot sndM c) 0 -∗ held c cc0_stg2_0 (stg2 m c)
      -∗ (∀ w, (atOne c 1 ∗ owns (c : Thread nD τ) (slot sndM 1) fullShare (msg m c 1) ∗ rest (freeSlot sndM c) 2 ∗ held c cc0_stg2_0 (stg2 m c)) -∗ Q w)
      -∗ run (F := F) c (atArgs k0_part6 c v2 v166 v168 v174) Q) := by
  rw [k0_part6_eq_skeleton]; unfold k0_part6_skel
  simp only [Prog.lift, Prog.bind_op, Prog.bind_ret, Prog.pure_eq_ret]
  subst hv
  iintro #HK HA HF H2 Hk
  iapply (put_msg m c 0 (n := 0) rfl rfl h0) $$ HF; iintro ⟨HM, HF⟩
  iapply (one_step m K c 0 (n := 0) rfl (dv (k0_dev8_lt c) (k0_dev8_eq c)) rfl rfl rfl rfl) $$ HK HA HM; iintro HA
  iapply (load_wo m c (nxt 1 c) (off_wo c 1)) $$ H2; iintro H2
  iapply (put_msg m c 1 (n := 1) rfl rfl rfl) $$ HF; iintro ⟨HM, HF⟩
  iapply (ret_run c); iapply Hk
  isplitl [HA]; · iexact HA
  isplitl [HM]; · iexact HM
  isplitl [HF] <;> iassumption

theorem part7 {Q} (v2 : BitVec 32) (v166 : FVec F S256x1024 .bf16) (hv : v166 = heads m c) :
    know m K ⊢ iprop(atOne c 1 -∗ owns (c : Thread nD τ) (slot sndM 1) fullShare (msg m c 1) -∗ rest (freeSlot sndM c) 2 -∗ held c cc0_stg2_0 (stg2 m c)
      -∗ (∀ w w', (atOne c 3 ∗ rest (freeSlot sndM c) 3 ∗ held c cc0_stg2_0 (stg2 m c)) -∗ Q ⟨w, w', k0_pay17 (heads m c) (wov m c (nxt 3 c))⟩)
      -∗ run (F := F) c (atArgs k0_part7 c v2 v166) Q) := by
  rw [k0_part7_eq_skeleton]; unfold k0_part7_skel
  simp only [Prog.lift, Prog.bind_op, Prog.bind_ret, Prog.pure_eq_ret]
  subst hv
  iintro #HK HA HM HF H2 Hk
  iapply (one_step m K c 1 (n := 1) rfl (dv (k0_dev9_lt c) (k0_dev9_eq c)) rfl rfl rfl rfl) $$ HK HA HM; iintro HA
  iapply (load_wo m c (nxt 2 c) (off_wo c 2)) $$ H2; iintro H2
  iapply (put_msg m c 2 (n := 2) rfl rfl rfl) $$ HF; iintro ⟨HM, HF⟩
  iapply (one_step m K c 2 (n := 2) rfl (dv (k0_dev10_lt c) (k0_dev10_eq c)) rfl rfl rfl rfl) $$ HK HA HM; iintro HA
  iapply (load_wo m c (nxt 3 c) (off_wo c 3)) $$ H2; iintro H2
  iapply (ret_run c); iapply Hk
  isplitl [HA]; · iexact HA
  isplitl [HF] <;> iassumption

theorem part8 {Q} (v2 : BitVec 32) (v166 : FVec F S256x1024 .bf16) (hv : v166 = heads m c) (v231 : BitVec 32) (v237 : FVec F S256x128 .bf16) (h3 : k0_pay18 v237 = msg m c 3) :
    know m K ⊢ iprop(atOne c 3 -∗ rest (freeSlot sndM c) 3 -∗ held c cc0_stg2_0 (stg2 m c)
      -∗ (∀ w, (atOne c 4 ∗ owns (c : Thread nD τ) (slot sndM 4) fullShare (msg m c 4) ∗ rest (freeSlot sndM c) 5 ∗ held c cc0_stg2_0 (stg2 m c)) -∗ Q w)
      -∗ run (F := F) c (atArgs k0_part8 c v2 v166 v231 v237) Q) := by
  rw [k0_part8_eq_skeleton]; unfold k0_part8_skel
  simp only [Prog.lift, Prog.bind_op, Prog.bind_ret, Prog.pure_eq_ret]
  subst hv
  iintro #HK HA HF H2 Hk
  iapply (put_msg m c 3 (n := 3) rfl rfl h3) $$ HF; iintro ⟨HM, HF⟩
  iapply (one_step m K c 3 (n := 3) rfl (dv (k0_dev11_lt c) (k0_dev11_eq c)) rfl rfl rfl rfl) $$ HK HA HM; iintro HA
  iapply (load_wo m c (nxt 4 c) (off_wo c 4)) $$ H2; iintro H2
  iapply (put_msg m c 4 (n := 4) rfl rfl rfl) $$ HF; iintro ⟨HM, HF⟩
  iapply (ret_run c); iapply Hk
  isplitl [HA]; · iexact HA
  isplitl [HM]; · iexact HM
  isplitl [HF] <;> iassumption

theorem part9 {Q} (v2 : BitVec 32) (v166 : FVec F S256x1024 .bf16) (hv : v166 = heads m c) :
    know m K ⊢ iprop(atOne c 4 -∗ owns (c : Thread nD τ) (slot sndM 4) fullShare (msg m c 4) -∗ rest (freeSlot sndM c) 5 -∗ held c cc0_stg2_0 (stg2 m c)
      -∗ (∀ w w', (atOne c 6 ∗ rest (freeSlot sndM c) 6 ∗ held c cc0_stg2_0 (stg2 m c)) -∗ Q ⟨w, w', k0_pay21 (wov m c (nxt 6 c))⟩)
      -∗ run (F := F) c (atArgs k0_part9 c v2 v166) Q) := by
  rw [k0_part9_eq_skeleton]; unfold k0_part9_skel
  simp only [Prog.lift, Prog.bind_op, Prog.bind_ret, Prog.pure_eq_ret]
  subst hv
  iintro #HK HA HM HF H2 Hk
  iapply (one_step m K c 4 (n := 4) rfl (dv (k0_dev12_lt c) (k0_dev12_eq c)) rfl rfl rfl rfl) $$ HK HA HM; iintro HA
  iapply (load_wo m c (nxt 5 c) (off_wo c 5)) $$ H2; iintro H2
  iapply (put_msg m c 5 (n := 5) rfl rfl rfl) $$ HF; iintro ⟨HM, HF⟩
  iapply (one_step m K c 5 (n := 5) rfl (dv (k0_dev13_lt c) (k0_dev13_eq c)) rfl rfl rfl rfl) $$ HK HA HM; iintro HA
  iapply (load_wo m c (nxt 6 c) (off_wo c 6)) $$ H2; iintro H2
  iapply (ret_run c); iapply Hk
  isplitl [HA]; · iexact HA
  isplitl [HF] <;> iassumption

/-- What the landings' phase begins with. -/
def landings (x : Fin 4) : sProp 𝕄 := bigSep Finset.univ (wantTok (F := F) c x)

theorem inOne_start : iprop(atOne c 7 ∗ landings c 1) ⊢ (iprop(inOne c 0 0 ∗ bigSep Finset.univ (crTok c 0)) : sProp 𝕄) := by
  unfold atOne inOne landings
  rw [rest_zero, done_zero, done_zero, done_all]
  iintro ⟨⟨HO, -, Hc⟩, HW⟩
  isplitr [Hc]
  · isplitl [HO]; · iexact HO
    isplitl [HW]; · iexact HW
    isplitr <;> iempintro
  iexact Hc

theorem part10 {Q} (v2 : BitVec 32) (v166 : FVec F S256x1024 .bf16) (hv : v166 = heads m c) (v168 v294 : BitVec 32) (v298 : FVec F S1024x128 .bf16) (h6 : k0_pay22 (heads m c) v298 = msg m c 6) :
    know m K ⊢ iprop(atOne c 6 -∗ rest (freeSlot sndM c) 6 -∗ held c cc0_stg2_0 (stg2 m c) -∗ landings c 1
      -∗ ((inOne c 1 0 ∗ owns (c : Thread nD τ) (slot lndM 0) fullShare (got m c 0) ∗ bigSep Finset.univ (crTok c 0) ∗ held c cc0_stg2_0 (stg2 m c)) -∗ Q (k0_pay23 (heads m c) (wov m c c)))
      -∗ run (F := F) c (atArgs k0_part10 c v2 v166 v168 v294 v298) Q) := by
  rw [k0_part10_eq_skeleton]; unfold k0_part10_skel
  simp only [Prog.lift, Prog.bind_op, Prog.bind_ret, Prog.pure_eq_ret]
  subst hv
  iintro #HK HA HF H2 HW Hk
  iapply (put_msg m c 6 (n := 6) rfl rfl h6) $$ HF; iintro ⟨HM, -⟩
  iapply (one_step m K c 6 (n := 6) rfl (dv (k0_dev14_lt c) (k0_dev14_eq c)) rfl rfl rfl rfl) $$ HK HA HM; iintro HA
  iapply (load_wo m c c (k0_off2_eq c)) $$ H2; iintro H2
  ihave HB := (inOne_start c) $$ [HA HW]
  · isplitl [HA] <;> iassumption
  icases HB with ⟨HB, HC⟩
  iapply (inOne_step m K c 0 (n := 0) rfl rfl (credit_lnd 0)) $$ HK HB; iintro ⟨HB, HS⟩
  iapply (ret_run c); iapply Hk
  isplitl [HB]; · iexact HB
  isplitl [HS]; · iexact HS
  isplitl [HC] <;> iassumption

end

end Cert.Exchange

end
-- ==== Proof.Parts2.lean ====
/-
# 01_k — the body part by part, from the landings of the first exchange on
-/
module

public import proofs.«01_k».proof.Proof.Parts

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

section
variable (K : Dev nD × CI → ℕ) (c : Dev nD)

theorem part11 {Q} (v189 v210 : BitVec 32) (v318 : FVec F S256x128 .f32) :
    know m K ⊢ iprop(inOne c 1 0 -∗ owns (c : Thread nD τ) (slot lndM 0) fullShare (got m c 0)
      -∗ (inOne c 3 3 -∗ Q (k0_pay24 v318 (got m c 0) (got m c 1) (got m c 2)))
      -∗ run (F := F) c (atArgs k0_part11 v189 v210 v318) Q) := by
  rw [k0_part11_eq_skeleton]; unfold k0_part11_skel
  simp only [Prog.lift, Prog.bind_op, Prog.bind_ret, Prog.pure_eq_ret]
  iintro #HK HB HS Hk
  iapply (load_one m c 0 (n := 1) (n' := 0) rfl rfl) $$ HS HB; iintro HB
  iapply (inOne_step m K c 1 (n := 1) rfl rfl (credit_lnd 1)) $$ HK HB; iintro ⟨HB, HS⟩
  iapply (load_one m c 1 (n := 2) (n' := 1) rfl rfl) $$ HS HB; iintro HB
  iapply (inOne_step m K c 2 (n := 2) rfl rfl (credit_lnd 2)) $$ HK HB; iintro ⟨HB, HS⟩
  iapply (load_one m c 2 (n := 3) (n' := 2) rfl rfl) $$ HS HB; iintro HB
  iapply (ret_run c); iapply Hk; iexact HB

theorem part12 {Q} (v231 v252 v273 : BitVec 32) (v354 : FVec F S256x128 .f32) :
    know m K ⊢ iprop(inOne c 3 3 -∗ (inOne c 5 5 -∗ Q (k0_pay25 v354 (got m c 3) (got m c 4)))
      -∗ run (F := F) c (atArgs k0_part12 v231 v252 v273 v354) Q) := by
  rw [k0_part12_eq_skeleton]; unfold k0_part12_skel
  simp only [Prog.lift, Prog.bind_op, Prog.bind_ret, Prog.pure_eq_ret]
  iintro #HK HB Hk
  iapply (inOne_step m K c 3 (n := 3) rfl rfl (credit_lnd 3)) $$ HK HB; iintro ⟨HB, HS⟩
  iapply (load_one m c 3 (n := 4) (n' := 3) rfl rfl) $$ HS HB; iintro HB
  iapply (inOne_step m K c 4 (n := 4) rfl rfl (credit_lnd 4)) $$ HK HB; iintro ⟨HB, HS⟩
  iapply (load_one m c 4 (n := 5) (n' := 4) rfl rfl) $$ HS HB; iintro HB
  iapply (ret_run c); iapply Hk; iexact HB

/-- The reduced block's buffer loaded for nothing and then stored. -/
theorem put_red {α : Type} {Q : α → sProp 𝕄} {hl : redM.view.LoadsAt (Rect.unit (s := S256x128) ![0, 0] S256x128.size inb_S256x128_S256x128_0_0).toLoadRect}
    {w : S256x128.Idx → Elt F .bf16} {hx : (redM.access (Rect.unit (s := S256x128) ![0, 0] S256x128.size inb_S256x128_S256x128_0_0)).Stores Finset.univ} {hm}
    {k : PUnit → Prog (TpuEff nD τ sig (Elt F) Λ₀ .tc) α} :
    iprop(∃ f, held c cc0_scratch1 f)
      ⊢ iprop((owns (c : Thread nD τ) redM fullShare w -∗ run (F := F) c (k ⟨⟩) Q)
        -∗ run (F := F) c (.op (.load redM (Rect.unit (s := S256x128) ![0, 0] S256x128.size inb_S256x128_S256x128_0_0).toLoadRect hl) fun _ =>
            .op (.store redM (Rect.unit (s := S256x128) ![0, 0] S256x128.size inb_S256x128_S256x128_0_0) w Finset.univ hx hm) k) Q) := by
  iintro ⟨%f, H⟩ Hk
  iapply (wp_load 𝒱₀ (c : Thread nD τ) none Set.univ (m := redM) (Finset.subset_univ _)) $$ H; iintro H
  iapply (wp_store 𝒱₀ (c : Thread nD τ) none Set.univ (m := redM) (r := Rect.unit (s := S256x128) ![0, 0] S256x128.size inb_S256x128_S256x128_0_0) (Mk := Finset.univ) (Finset.subset_univ _)) $$ H
  iintro H
  iapply Hk
  rw [owns_whole]
  iapply (Entails.of_eq (congrArg (fun X => (held c cc0_scratch1 X : sProp 𝕄))
    (Memref.write_access_unit_zero_univ (Elt F) cc0_scratch1 (off := ![0, 0]) (by funext a; fin_cases a <;> rfl) inb_S256x128_S256x128_0_0 f w)))
  iexact H

theorem part13 {Q} (v2 v294 : BitVec 32) (v378 : FVec F S256x128 .f32) (hv : v378 = part m c) :
    know m K ⊢ iprop(inOne c 5 5 -∗ (∃ X : S256x128.Idx → Elt F .f32, owns (c : Thread nD τ) (colM c) fullShare X) -∗ (∃ f, held c cc0_scratch1 f)
      -∗ (∀ w, (inOne c 7 7 ∗ owns (c : Thread nD τ) (colM c) fullShare (blockOf m c c) ∗ owns (c : Thread nD τ) redM fullShare (redb m c)) -∗ Q w)
      -∗ run (F := F) c (atArgs k0_part13 c v2 v294 v378) Q) := by
  rw [k0_part13_eq_skeleton]; unfold k0_part13_skel
  simp only [Prog.lift, Prog.bind_op, Prog.bind_ret, Prog.pure_eq_ret]
  subst hv
  iintro #HK HB HC HR Hk
  iapply (inOne_step m K c 5 (n := 5) rfl rfl (credit_lnd 5)) $$ HK HB; iintro ⟨HB, HS⟩
  iapply (load_one m c 5 (n := 6) (n' := 5) rfl rfl) $$ HS HB; iintro HB
  iapply (inOne_step m K c 6 (n := 6) rfl rfl (credit_lnd 6)) $$ HK HB; iintro ⟨HB, HS⟩
  iapply (load_one m c 6 (n := 7) (n' := 6) rfl rfl) $$ HS HB; iintro HB
  iapply (put_part c outM (col_inb c) (k0_off3_eq c)) $$ [HC]
  · iexact HC
  iintro HC
  iapply (put_red c) $$ HR; iintro HR
  iapply (ret_run c); iapply Hk
  isplitl [HB]; · iexact HB
  isplitl [HC]
  · rw [blockOf_self]; iexact HC
  iexact HR

theorem part14 {Q} (v2 v411 : BitVec 32) :
    know m K ⊢ iprop(atTwo m c 0 -∗ (∀ a b d, atTwo m c 3 -∗ Q ⟨a, b, d⟩) -∗ run (F := F) c (atArgs k0_part14 c v2 v411) Q) := by
  rw [k0_part14_eq_skeleton]; unfold k0_part14_skel
  simp only [Prog.lift, Prog.bind_op, Prog.bind_ret, Prog.pure_eq_ret]
  iintro #HK HA Hk
  iapply (two_step m K c 0 (n := 0) rfl (dv (k0_dev15_lt c) (k0_dev15_eq c)) rfl rfl rfl rfl) $$ HK HA; iintro HA
  iapply (two_step m K c 1 (n := 1) rfl (dv (k0_dev16_lt c) (k0_dev16_eq c)) rfl rfl rfl rfl) $$ HK HA; iintro HA
  iapply (two_step m K c 2 (n := 2) rfl (dv (k0_dev17_lt c) (k0_dev17_eq c)) rfl rfl rfl rfl) $$ HK HA; iintro HA
  iapply (ret_run c); iapply Hk; iexact HA

theorem part15 {Q} (v2 v441 : BitVec 32) :
    know m K ⊢ iprop(atTwo m c 3 -∗ (∀ a b d, atTwo m c 6 -∗ Q ⟨a, b, d⟩) -∗ run (F := F) c (atArgs k0_part15 c v2 v441) Q) := by
  rw [k0_part15_eq_skeleton]; unfold k0_part15_skel
  simp only [Prog.lift, Prog.bind_op, Prog.bind_ret, Prog.pure_eq_ret]
  iintro #HK HA Hk
  iapply (two_step m K c 3 (n := 3) rfl (dv (k0_dev18_lt c) (k0_dev18_eq c)) rfl rfl rfl rfl) $$ HK HA; iintro HA
  iapply (two_step m K c 4 (n := 4) rfl (dv (k0_dev19_lt c) (k0_dev19_eq c)) rfl rfl rfl rfl) $$ HK HA; iintro HA
  iapply (two_step m K c 5 (n := 5) rfl (dv (k0_dev20_lt c) (k0_dev20_eq c)) rfl rfl rfl rfl) $$ HK HA; iintro HA
  iapply (ret_run c); iapply Hk; iexact HA

theorem inTwo_start : iprop(atTwo m c 7 ∗ landings c 3)
    ⊢ (iprop(inTwo c 0 0 ∗ owns (c : Thread nD τ) redM (left 7) (redb m c) ∗ bigSep Finset.univ (crTok c 2)) : sProp 𝕄) := by
  unfold atTwo inTwo landings
  rw [rest_zero, done_zero, done_zero, done_all]
  iintro ⟨⟨HO, HR, -, Hc⟩, HW⟩
  isplitl [HO HW]
  · isplitl [HO]; · iexact HO
    isplitl [HW]; · iexact HW
    isplitr <;> iempintro
  isplitl [HR] <;> iassumption

theorem part16 {Q} (v2 v411 v421 v471 : BitVec 32) :
    know m K ⊢ iprop(atTwo m c 6 -∗ landings c 3 -∗ filled m c 0
      -∗ ((inTwo c 2 1 ∗ owns (c : Thread nD τ) (slot gatM 1) fullShare (lead (redb m (prv 1 c))) ∗ filled m c 1
          ∗ owns (c : Thread nD τ) redM (left 7) (redb m c) ∗ bigSep Finset.univ (crTok c 2)) -∗ Q ⟨⟩)
      -∗ run (F := F) c (atArgs k0_part16 c v2 v411 v421 v471) Q) := by
  rw [k0_part16_eq_skeleton]; unfold k0_part16_skel
  simp only [Prog.lift, Prog.bind_op, Prog.bind_ret, Prog.pure_eq_ret]
  iintro #HK HA HW HF Hk
  iapply (two_step m K c 6 (n := 6) rfl (dv (k0_dev21_lt c) (k0_dev21_eq c)) rfl rfl rfl rfl) $$ HK HA; iintro HA
  ihave HB := (inTwo_start m c) $$ [HA HW]
  · isplitl [HA] <;> iassumption
  icases HB with ⟨HB, HR, HC⟩
  iapply (inTwo_step m K c 0 (n := 0) rfl rfl (credit_gat 0)) $$ HK HB; iintro ⟨HB, HS⟩
  iapply (load_two c 0 (n := 1) (n' := 0) rfl rfl) $$ HS HB; iintro HB
  iapply (put_block m c 0 (n := 0) rfl (off_col c 0) (blockOf_prv m c 0).symm) $$ HF; iintro HF
  iapply (inTwo_step m K c 1 (n := 1) rfl rfl (credit_gat 1)) $$ HK HB; iintro ⟨HB, HS⟩
  iapply (ret_run c); iapply Hk
  isplitl [HB]; · iexact HB
  isplitl [HS]; · iexact HS
  isplitl [HF]; · iexact HF
  isplitl [HR] <;> iassumption

theorem part17 {Q} (v2 v431 v441 : BitVec 32) :
    know m K ⊢ iprop(inTwo c 2 1 -∗ owns (c : Thread nD τ) (slot gatM 1) fullShare (lead (redb m (prv 1 c))) -∗ filled m c 1
      -∗ ((inTwo c 3 3 ∗ filled m c 3) -∗ Q ⟨⟩)
      -∗ run (F := F) c (atArgs k0_part17 c v2 v431 v441) Q) := by
  rw [k0_part17_eq_skeleton]; unfold k0_part17_skel
  simp only [Prog.lift, Prog.bind_op, Prog.bind_ret, Prog.pure_eq_ret]
  iintro #HK HB HS HF Hk
  iapply (load_two c 1 (n := 2) (n' := 1) rfl rfl) $$ HS HB; iintro HB
  iapply (put_block m c 1 (n := 1) rfl (off_col c 1) (blockOf_prv m c 1).symm) $$ HF; iintro HF
  iapply (inTwo_step m K c 2 (n := 2) rfl rfl (credit_gat 2)) $$ HK HB; iintro ⟨HB, HS⟩
  iapply (load_two c 2 (n := 3) (n' := 2) rfl rfl) $$ HS HB; iintro HB
  iapply (put_block m c 2 (n := 2) rfl (off_col c 2) (blockOf_prv m c 2).symm) $$ HF; iintro HF
  iapply (ret_run c); iapply Hk
  isplitl [HB] <;> iassumption

theorem part18 {Q} (v2 v451 v461 : BitVec 32) :
    know m K ⊢ iprop(inTwo c 3 3 -∗ filled m c 3 -∗ (∀ w, (inTwo c 5 5 ∗ filled m c 5) -∗ Q ⟨w, 0#32⟩)
      -∗ run (F := F) c (atArgs k0_part18 c v2 v451 v461) Q) := by
  rw [k0_part18_eq_skeleton]; unfold k0_part18_skel
  simp only [Prog.lift, Prog.bind_op, Prog.bind_ret, Prog.pure_eq_ret]
  iintro #HK HB HF Hk
  iapply (inTwo_step m K c 3 (n := 3) rfl rfl (credit_gat 3)) $$ HK HB; iintro ⟨HB, HS⟩
  iapply (load_two c 3 (n := 4) (n' := 3) rfl rfl) $$ HS HB; iintro HB
  iapply (put_block m c 3 (n := 3) rfl (off_col c 3) (blockOf_prv m c 3).symm) $$ HF; iintro HF
  iapply (inTwo_step m K c 4 (n := 4) rfl rfl (credit_gat 4)) $$ HK HB; iintro ⟨HB, HS⟩
  iapply (load_two c 4 (n := 5) (n' := 4) rfl rfl) $$ HS HB; iintro HB
  iapply (put_block m c 4 (n := 4) rfl (off_col c 4) (blockOf_prv m c 4).symm) $$ HF; iintro HF
  iapply (ret_run c); iapply Hk
  isplitl [HB] <;> iassumption

theorem part19 {Q} (v2 v471 v555 w : BitVec 32) :
    know m K ⊢ iprop(inTwo c 5 5 -∗ filled m c 5 -∗ ((inTwo c 7 7 ∗ filled m c 7) -∗ Q ⟨⟩)
      -∗ run (F := F) c (atArgs k0_part19 c v2 v471 v555 w) Q) := by
  rw [k0_part19_eq_skeleton]; unfold k0_part19_skel
  simp only [Prog.lift, Prog.bind_op, Prog.bind_ret, Prog.pure_eq_ret]
  iintro #HK HB HF Hk
  iapply (inTwo_step m K c 5 (n := 5) rfl rfl (credit_gat 5)) $$ HK HB; iintro ⟨HB, HS⟩
  iapply (load_two c 5 (n := 6) (n' := 5) rfl rfl) $$ HS HB; iintro HB
  iapply (put_block m c 5 (n := 5) rfl (off_col c 5) (blockOf_prv m c 5).symm) $$ HF; iintro HF
  iapply (inTwo_step m K c 6 (n := 6) rfl rfl (credit_gat 6)) $$ HK HB; iintro ⟨HB, HS⟩
  iapply (load_two c 6 (n := 7) (n' := 6) rfl rfl) $$ HS HB; iintro HB
  iapply (put_block m c 6 (n := 6) rfl (off_col c 6) (blockOf_prv m c 6).symm) $$ HF; iintro HF
  iapply (ret_run c); iapply Hk
  isplitl [HB] <;> iassumption

/-- The sends of both exchanges waited for up to `n`. -/
def back (n n' : ℕ) : sProp 𝕄 := iprop(ow c 21 ∗ backOne c n ∗ backTwo m c n')

theorem back_one {α : Type} {Q : α → sProp 𝕄} {k : PUnit → Prog (TpuEff nD τ sig (Elt F) Λ₀ .tc) α} (j : Fin 7) {n n' : ℕ} (hn : j.val = n) {q : DmaSem sig} (hq : q = xsem 0 j)
    {sp sp' : Space} {s s' : Shape} {e e' : EltTy} {src : Memref sig .tc sp' s' e'} {dst : Memref sig .tc sp s e} (hN : dst.view.dmaCredit = N)
    {hsrc : src.view.WordExact} {hdst : dst.view.WordExact} :
    know m K ⊢ iprop(back m c n n' -∗ (back m c (n + 1) n' -∗ run (F := F) c (k ⟨⟩) Q)
      -∗ run (F := F) c (.op (.waitDma2 q src dst hsrc hdst) k) Q) := by
  unfold back
  iintro #HK ⟨HO, HA, HB⟩ Hk
  iapply (backOne_step m K c j hn hq hN) $$ HK HO HA; iintro ⟨HO, HA⟩
  iapply Hk
  isplitl [HO]; · iexact HO
  isplitl [HA] <;> iassumption

theorem back_two {α : Type} {Q : α → sProp 𝕄} {k : PUnit → Prog (TpuEff nD τ sig (Elt F) Λ₀ .tc) α} (j : Fin 7) {n n' : ℕ} (hn : j.val = n') {q : DmaSem sig} (hq : q = xsem 2 j)
    {sp sp' : Space} {s s' : Shape} {e e' : EltTy} {src : Memref sig .tc sp' s' e'} {dst : Memref sig .tc sp s e} (hN : dst.view.dmaCredit = N)
    {hsrc : src.view.WordExact} {hdst : dst.view.WordExact} :
    know m K ⊢ iprop(back m c n n' -∗ (back m c n (n' + 1) -∗ run (F := F) c (k ⟨⟩) Q)
      -∗ run (F := F) c (.op (.waitDma2 q src dst hsrc hdst) k) Q) := by
  unfold back
  iintro #HK ⟨HO, HA, HB⟩ Hk
  iapply (backTwo_step m K c j hn hq hN) $$ HK HO HB; iintro ⟨HO, HB⟩
  iapply Hk
  isplitl [HO]; · iexact HO
  isplitl [HA] <;> iassumption

theorem part20 {Q} : know m K ⊢ iprop(back m c 0 0 -∗ (back m c 2 2 -∗ Q ⟨⟩) -∗ run (F := F) c (atArgs k0_part20) Q) := by
  rw [k0_part20_eq_skeleton]; unfold k0_part20_skel
  simp only [Prog.lift, Prog.bind_op, Prog.bind_ret, Prog.pure_eq_ret]
  iintro #HK HB Hk
  iapply (back_one m K c 0 (n := 0) rfl rfl (credit_snd 0)) $$ HK HB; iintro HB
  iapply (back_two m K c 0 (n' := 0) rfl rfl credit_red) $$ HK HB; iintro HB
  iapply (back_one m K c 1 (n := 1) rfl rfl (credit_snd 1)) $$ HK HB; iintro HB
  iapply (back_two m K c 1 (n' := 1) rfl rfl credit_red) $$ HK HB; iintro HB
  iapply (ret_run c); iapply Hk; iexact HB

theorem part21 {Q} : know m K ⊢ iprop(back m c 2 2 -∗ (back m c 4 4 -∗ Q ⟨⟩) -∗ run (F := F) c (atArgs k0_part21) Q) := by
  rw [k0_part21_eq_skeleton]; unfold k0_part21_skel
  simp only [Prog.lift, Prog.bind_op, Prog.bind_ret, Prog.pure_eq_ret]
  iintro #HK HB Hk
  iapply (back_one m K c 2 (n := 2) rfl rfl (credit_snd 2)) $$ HK HB; iintro HB
  iapply (back_two m K c 2 (n' := 2) rfl rfl credit_red) $$ HK HB; iintro HB
  iapply (back_one m K c 3 (n := 3) rfl rfl (credit_snd 3)) $$ HK HB; iintro HB
  iapply (back_two m K c 3 (n' := 3) rfl rfl credit_red) $$ HK HB; iintro HB
  iapply (ret_run c); iapply Hk; iexact HB

theorem part22 {Q} : know m K ⊢ iprop(back m c 4 4 -∗ (back m c 7 6 -∗ Q ⟨⟩) -∗ run (F := F) c (atArgs k0_part22) Q) := by
  rw [k0_part22_eq_skeleton]; unfold k0_part22_skel
  simp only [Prog.lift, Prog.bind_op, Prog.bind_ret, Prog.pure_eq_ret]
  iintro #HK HB Hk
  iapply (back_one m K c 4 (n := 4) rfl rfl (credit_snd 4)) $$ HK HB; iintro HB
  iapply (back_two m K c 4 (n' := 4) rfl rfl credit_red) $$ HK HB; iintro HB
  iapply (back_one m K c 5 (n := 5) rfl rfl (credit_snd 5)) $$ HK HB; iintro HB
  iapply (back_two m K c 5 (n' := 5) rfl rfl credit_red) $$ HK HB; iintro HB
  iapply (back_one m K c 6 (n := 6) rfl rfl (credit_snd 6)) $$ HK HB; iintro HB
  iapply (ret_run c); iapply Hk; iexact HB

theorem part23 {Q} (v2 : BitVec 32) :
    know m K ⊢ iprop(back m c 7 6 -∗ rest (exitTok c) 0 -∗ (∀ w, (atExit c 5 ∗ backOne c 7 ∗ backTwo m c 7) -∗ Q ⟨w, 8#32⟩)
      -∗ run (F := F) c (atArgs k0_part23 c v2) Q) := by
  rw [k0_part23_eq_skeleton]; unfold k0_part23_skel
  simp only [semSignalWord, Prog.lift, Prog.bind_op, Prog.bind_ret, Prog.pure_eq_ret]
  iintro #HK HB HE Hk
  iapply (back_two m K c 6 (n' := 6) rfl rfl credit_red) $$ HK HB; iintro HB
  unfold back
  icases HB with ⟨HO, HB, HC⟩
  ihave HA := (show iprop(ow c 21 ∗ rest (exitTok c) 0) ⊢ (atExit c 0 : sProp 𝕄) from Entails.of_eq rfl) $$ [HO HE]
  · isplitl [HO] <;> iassumption
  iapply (exit_step m K c 0 (n := 0) rfl (dv (k0_dev22_lt c) (k0_dev22_eq c)) rfl rfl) $$ HK HA; iintro HA
  iapply (exit_step m K c 1 (n := 1) rfl (dv (k0_dev23_lt c) (k0_dev23_eq c)) rfl rfl) $$ HK HA; iintro HA
  iapply (exit_step m K c 2 (n := 2) rfl (dv (k0_dev24_lt c) (k0_dev24_eq c)) rfl rfl) $$ HK HA; iintro HA
  iapply (exit_step m K c 3 (n := 3) rfl (dv (k0_dev25_lt c) (k0_dev25_eq c)) rfl rfl) $$ HK HA; iintro HA
  iapply (exit_step m K c 4 (n := 4) rfl (dv (k0_dev26_lt c) (k0_dev26_eq c)) rfl rfl) $$ HK HA; iintro HA
  iapply (ret_run c); iapply Hk
  isplitl [HA]; · iexact HA
  isplitl [HB] <;> iassumption

end

end Cert.Exchange

end
-- ==== Proof.Pieces.lean ====
/-
# 01_k — the buffers in pieces

A buffer of seven slots is its slots, the result is its eight blocks, the reduced block is the shares that were lent of it
together with what was kept; and a device's cells, once done, give back their counters.
-/
module

public import proofs.«01_k».proof.Proof.Parts2

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

theorem slots_disjoint (j j' : Fin 7) (h : j ≠ j') : Disjoint (slotR j).set (slotR j').set := by
  have hv : j.val ≠ j'.val := fun e => h (Fin.ext e)
  refine Rect.unit_disjoint (s := S7x256x128) 0 ?_
  show j.val + 1 ≤ j'.val ∨ j'.val + 1 ≤ j.val
  omega
theorem slots_cover : (Finset.univ : Finset (Fin 7)).biUnion (fun j => (slotR j).set) = Finset.univ := by
  refine Finset.eq_univ_of_forall fun x => Finset.mem_biUnion.mpr ⟨(x 0 : Fin 7), Finset.mem_univ _, Rect.mem_set_unit.mpr fun a => ?_⟩
  have h0 : (x 0).val < 7 := (x 0).isLt
  have h1 : (x 1).val < 256 := (x 1).isLt
  have h2 : (x 2).val < 128 := (x 2).isLt
  match a with
  | ⟨0, _⟩ => exact ⟨le_refl _, Nat.lt_succ_self _⟩
  | ⟨1, _⟩ => exact ⟨Nat.zero_le _, by show (x 1).val < 0 + 256; omega⟩
  | ⟨2, _⟩ => exact ⟨Nat.zero_le _, by show (x 2).val < 0 + 128; omega⟩

theorem cols_disjoint (k k' : Dev nD) (h : k ≠ k') : Disjoint (colR k).set (colR k').set := by
  have hv : k.val ≠ k'.val := fun e => h (Fin.ext e)
  refine Rect.unit_disjoint (s := S256x1024) 1 ?_
  show 128 * k.val + 128 ≤ 128 * k'.val ∨ 128 * k'.val + 128 ≤ 128 * k.val
  omega
theorem cols_cover : (Finset.univ : Finset (Dev nD)).biUnion (fun k => (colR k).set) = Finset.univ := by
  refine Finset.eq_univ_of_forall fun x => ?_
  have h0 : (x 0).val < 256 := (x 0).isLt
  have h1 : (x 1).val < 1024 := (x 1).isLt
  refine Finset.mem_biUnion.mpr ⟨(⟨(x 1).val / 128, by show _ < 8; omega⟩ : Dev nD), Finset.mem_univ _, Rect.mem_set_unit.mpr fun a => ?_⟩
  match a with
  | ⟨0, _⟩ => exact ⟨Nat.zero_le _, by show (x 0).val < 0 + 256; omega⟩
  | ⟨1, _⟩ =>
    refine ⟨?_, ?_⟩
    · show 128 * ((x 1).val / 128) ≤ (x 1).val; omega
    · show (x 1).val < 128 * ((x 1).val / 128) + 128; omega

section
variable (c : Dev nD)

/-- Contents of a buffer of seven slots, slot by slot. -/
def ofSlots (y : Fin 7 → S1x256x128.Idx → Elt F .bf16) : S7x256x128.Idx → Elt F .bf16 := fun x =>
  y (x 0 : Fin 7) (fun a => match a with | ⟨0, _⟩ => (0 : Fin 1) | ⟨1, _⟩ => (x 1 : Fin 256) | ⟨2, _⟩ => (x 2 : Fin 128))

theorem ofSlots_emb (y : Fin 7 → S1x256x128.Idx → Elt F .bf16) (j : Fin 7) (i : S1x256x128.Idx) : ofSlots y ((slotR j).emb i) = y j i := by
  have i0 : (i 0).val < 1 := (i 0).isLt
  have h0 : (((slotR j).emb i) 0 : Fin 7) = j := Fin.ext (by
    show j.val + 1 * (i 0).val = j.val; omega)
  unfold ofSlots
  rw [h0]
  refine congrArg (y j) (funext fun a => Fin.ext ?_)
  match a with
  | ⟨0, _⟩ => show 0 = (i 0).val; omega
  | ⟨1, _⟩ => show 0 + 1 * (i 1).val = (i 1).val; omega
  | ⟨2, _⟩ => show 0 + 1 * (i 2).val = (i 2).val; omega

/-- A buffer of seven slots is its slots, whatever it holds. -/
theorem slots_of (M : Memref sig .tc .vmem S7x256x128 .bf16) (f : S7x256x128.Idx → Elt F .bf16) :
    owns (c : Thread nD τ) M fullShare f ⊢ (bigSep Finset.univ fun j => freeSlot M c j : sProp 𝕄) :=
  (owns_rects (c : Thread nD τ) M fullShare slotR (fun _ _ => rfl) slots_disjoint slots_cover f).trans
    (bigSep_mono fun j _ => show (_ : sProp 𝕄) ⊢ _ by unfold freeSlot; iintro H; iexists _; iexact H)

theorem of_slots (M : Memref sig .tc .vmem S7x256x128 .bf16) :
    (bigSep Finset.univ fun j => freeSlot M c j) ⊢ (iprop(∃ f, owns (c : Thread nD τ) M fullShare f) : sProp 𝕄) := by
  have h : ∀ y : Fin 7 → S1x256x128.Idx → Elt F .bf16, (bigSep Finset.univ fun j => owns (c : Thread nD τ) (slot M j) fullShare (y j))
      ⊢ (owns (c : Thread nD τ) M fullShare (ofSlots y) : sProp 𝕄) := fun y =>
    (Entails.of_eq (bigSep_congr fun j _ => congrArg (owns (c : Thread nD τ) (slot M j) fullShare) (funext fun i => (ofSlots_emb y j i).symm))).trans
      (owns_of_rects (c : Thread nD τ) M fullShare slotR (fun _ _ => rfl) slots_disjoint slots_cover (ofSlots y))
  haveI he : ∀ e, Nonempty (Elt F e) := inferInstance
  haveI : ∀ _ : Fin 7, Nonempty (S1x256x128.Idx → Elt F .bf16) := fun _ => ⟨fun _ => (he .bf16).some⟩
  refine (BI.bigSep_exists_pi Finset.univ (fun (j : Fin 7) (X : S1x256x128.Idx → Elt F .bf16) => (owns (c : Thread nD τ) (slot M j) fullShare X : sProp 𝕄))).trans ?_
  show (_ : sProp 𝕄) ⊢ _
  iintro ⟨%y, H⟩
  iexists (ofSlots y)
  iapply (h y); iexact H

/-- The other devices, each by how far behind it is. -/
theorem others (Φ : Dev nD → sProp 𝕄) : bigSep Finset.univ Φ = iprop(Φ c ∗ bigSep Finset.univ fun j : Fin 7 => Φ (prv j c)) := by
  have hi : Finset.univ.erase c = Finset.univ.image fun j : Fin 7 => prv j c := by revert c; decide
  have hj : Set.InjOn (fun j : Fin 7 => prv j c) (Finset.univ : Finset (Fin 7)) := by
    intro a _ b _ h; revert a b c; decide
  rw [bigSep_univ_at Φ c, hi, bigSep_image_of_injOn hj]

/-- The result's buffer is its eight blocks, none of them written; -/
theorem cols_of (f : S256x1024.Idx → Elt F .f32) :
    owns (c : Thread nD τ) outM fullShare f
      ⊢ (iprop((∃ X : S256x128.Idx → Elt F .f32, owns (c : Thread nD τ) (colM c) fullShare X) ∗ filled m c 0) : sProp 𝕄) := by
  unfold filled
  rw [rest_zero, done_zero]
  refine (owns_rects (c : Thread nD τ) outM fullShare colR (fun _ _ => rfl) cols_disjoint cols_cover f).trans ?_
  refine (bigSep_mono (Ψ := fun k => iprop(∃ X : S256x128.Idx → Elt F .f32, owns (c : Thread nD τ) (colM k) fullShare X))
    fun j _ => show (_ : sProp 𝕄) ⊢ _ by iintro H; iexists _; iexact H).trans ?_
  rw [others c]
  show (_ : sProp 𝕄) ⊢ _
  iintro ⟨H, Hs⟩
  isplitl [H]; · iexact H
  isplitl [Hs]
  · unfold openCol; iexact Hs
  iempintro

theorem outAt_emb (k : Dev nD) (i : S256x128.Idx) : (outAt m c : S256x1024.Idx → Elt F .f32) ((colR k).emb i) = blockOf m c k i := by
  have i1 : (i 1).val < 128 := (i 1).isLt
  have hv : (((colR k).emb i) 1 : Fin 1024).val = 128 * k.val + (i 1).val := by
    show 128 * k.val + 1 * (i 1).val = _; omega
  unfold outAt
  have hk : ∀ h, (⟨(((colR k).emb i) 1 : Fin 1024).val / 128, h⟩ : Dev nD) = k := fun h => Fin.ext (by
    show (((colR k).emb i) 1 : Fin 1024).val / 128 = k.val; rw [hv]; omega)
  rw [hk]
  refine congrArg (blockOf m c k) (funext fun a => Fin.ext ?_)
  match a with
  | ⟨0, _⟩ => show 0 + 1 * (i 0).val = (i 0).val; omega
  | ⟨1, _⟩ => show (((colR k).emb i) 1 : Fin 1024).val % 128 = (i 1).val; rw [hv]; omega

/-- and all of them written. -/
theorem of_cols : iprop(owns (c : Thread nD τ) (colM c) fullShare (blockOf m c c) ∗ filled m c 7)
    ⊢ (owns (c : Thread nD τ) outM fullShare (outAt m c) : sProp 𝕄) := by
  have h := others (F := F) c fun k => owns (c : Thread nD τ) (colM k) fullShare (blockOf m c k)
  unfold filled
  rw [done_all]
  refine (show (_ : sProp 𝕄) ⊢ iprop(owns (c : Thread nD τ) (colM c) fullShare (blockOf m c c)
      ∗ bigSep Finset.univ fun j : Fin 7 => owns (c : Thread nD τ) (colM (prv j c)) fullShare (blockOf m c (prv j c))) by
    iintro ⟨H, -, Hs⟩
    isplitl [H]; · iexact H
    unfold fullCol; iexact Hs).trans ?_
  rw [← h]
  exact (Entails.of_eq (bigSep_congr fun k _ => congrArg (owns (c : Thread nD τ) (colM k) fullShare) (funext fun i => (outAt_emb m c k i).symm))).trans
    (owns_of_rects (c : Thread nD τ) outM fullShare colR (fun _ _ => rfl) cols_disjoint cols_cover (outAt m c))

/-- The shares lent of the reduced block, put back. -/
theorem red_back (X : S256x128.Idx → Elt F .bf16) : ∀ n : ℕ, n ≤ 7 →
    (iprop(owns (c : Thread nD τ) redM (left n) X ∗ done (fun j : Fin 7 => owns (c : Thread nD τ) redM (left j.val).left X) n)
      ⊢ (owns (c : Thread nD τ) redM fullShare X : sProp 𝕄)) := by
  intro n
  induction n with
  | zero => intro _; rw [done_zero]; iintro ⟨H, -⟩; iexact H
  | succ n ih =>
    intro hn
    rw [done_step (fun j : Fin 7 => owns (c : Thread nD τ) redM (left j.val).left X) (⟨n, hn⟩ : Fin 7) rfl]
    refine (show (_ : sProp 𝕄) ⊢ iprop(owns (c : Thread nD τ) redM (left n) X ∗ done (fun j : Fin 7 => owns (c : Thread nD τ) redM (left j.val).left X) n) from ?_).trans (ih (by omega))
    iintro ⟨Hr, Hl, Hd⟩
    isplitr [Hd]
    · iapply (owns_halves (c : Thread nD τ) redM (left n) X).2
      isplitl [Hl]; · iexact Hl
      iexact Hr
    iexact Hd

/-- A device's cells all done: their counters at zero. -/
theorem cells_close (K : Dev nD × CI → ℕ) :
    know m K ⊢ iprop((bigSep Finset.univ fun i : CI => atPos ER (kcell c i) 1 ∅ 0) -∗ |={Set.univ}=> (bigSep Finset.univ fun i : CI => semVal (kcell c i) 0 : sProp 𝕄)) := by
  have h : ∀ i ∈ (Finset.univ : Finset CI), iprop(recs m K ∗ atPos ER (kcell c i) 1 ∅ 0) ⊢ (iprop(|={Set.univ}=> semVal (kcell c i) 0) : sProp 𝕄) := fun i _ => by
    refine (show (_ : sProp 𝕄) ⊢ iprop(cellInv ER (rd m) (K (c, i)) (kcell c i) ∗ atPos ER (kcell c i) 1 ∅ 0) from ?_).trans
      (Rounds.cell_close ER (rd m) (Set.mem_univ (K (c, i))) (fun h => h) (R := 1) (duties_later m (kcell c i)))
    iintro ⟨#HR, H⟩
    isplitr; · iapply (inv_of m K c i); iexact HR
    iexact H
  unfold know
  iintro ⟨#HR, -⟩ H
  iapply (((sep_mono_left (BI.bigSep_of_persistent Finset.univ (recs m K))).trans (by rw [← bigSep_sep']; exact bigSep_mono h)).trans (bigSep_fupd _ _) :
    iprop(recs m K ∗ bigSep Finset.univ fun i : CI => atPos ER (kcell c i) 1 ∅ 0) ⊢ (iprop(|={Set.univ}=> bigSep Finset.univ fun i : CI => semVal (kcell c i) 0) : sProp 𝕄))
  isplitr; · iexact HR
  iexact H

end

end Cert.Exchange

end
-- ==== Proof.Body.lean ====
/-
# 01_k — the body, from its parts

One device's run of the body: what it starts from (its cells at round 0, what it pays with and what it is owed, its buffers),
through the twenty-three parts, to what it ends with (its cells closed, its buffers whole again, the result's among them).
-/
module

public import proofs.«01_k».proof.Proof.Pieces

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

omit [FloatOps F] in
theorem bigSep_two (Φ : Fin 2 → sProp 𝕄) : bigSep Finset.univ Φ = iprop(Φ 0 ∗ Φ 1) := by
  rw [bigSep_univ_eq_bigSepL [0, 1] (by decide) (by decide)]; rfl
omit [FloatOps F] in
theorem bigSep_four (Φ : Fin 4 → sProp 𝕄) : bigSep Finset.univ Φ = iprop(Φ 0 ∗ Φ 1 ∗ Φ 2 ∗ Φ 3) := by
  rw [bigSep_univ_eq_bigSepL [0, 1, 2, 3] (by decide) (by decide)]; rfl

omit [FloatOps F] in
/-- The cells of a device: its barrier, its exit, and the four times seven of the exchanges. -/
theorem cells_split (Φ : CI → sProp 𝕄) : bigSep Finset.univ Φ
    = iprop((Φ (.inl 0) ∗ Φ (.inl 1)) ∗ (bigSep Finset.univ fun j => Φ (.inr (0, j))) ∗ (bigSep Finset.univ fun j => Φ (.inr (1, j)))
        ∗ (bigSep Finset.univ fun j => Φ (.inr (2, j))) ∗ bigSep Finset.univ fun j => Φ (.inr (3, j))) := by
  rw [bigSep_univ_sum, bigSep_two, bigSep_univ_prod, bigSep_four]; rfl

section
variable (c : Dev nD)

/-- What device `c` pays with. -/
def toks : sProp 𝕄 :=
  iprop((bigSep Finset.univ fun j => dutyTok ER (kcell (nxt j c) (.inl 0)) 0 j) ∗ (bigSep Finset.univ fun j => dutyTok ER (kcell (nxt j c) (.inl 1)) 0 j)
    ∗ (bigSep Finset.univ fun j => dutyTok ER (kcell c (.inr (0, j))) 0 (0 : Fin 7)) ∗ (bigSep Finset.univ fun j => dutyTok ER (kcell (nxt j c) (.inr (1, j))) 0 (0 : Fin 7))
    ∗ (bigSep Finset.univ fun j => dutyTok ER (kcell c (.inr (2, j))) 0 (0 : Fin 7)) ∗ bigSep Finset.univ fun j => dutyTok ER (kcell (nxt j c) (.inr (3, j))) 0 (0 : Fin 7))
/-- Where device `c` stands in its own cells. -/
def poss (r : ℕ) : sProp 𝕄 := bigSep Finset.univ fun i : CI => atPos ER (kcell c i) r ∅ 0
/-- What device `c` is owed by the others. -/
def creds : sProp 𝕄 :=
  iprop(cred (tallyAt (kcell c (.inl 0)) () 7) ∗ cred (tallyAt (kcell c (.inl 1)) () 7) ∗ bigSep Finset.univ (crTok c 1) ∗ bigSep Finset.univ (crTok c 3))
/-- The four buffers the body keeps to itself, holding anything. -/
def scratch : sProp 𝕄 :=
  iprop((∃ f, held (F := F) c cc0_scratch0 f) ∗ (∃ f, held (F := F) c cc0_scratch1 f) ∗ (∃ f, held (F := F) c cc0_scratch2 f) ∗ ∃ f, held (F := F) c cc0_scratch3 f)
/-- The five inputs as staged. -/
def inputs : sProp 𝕄 :=
  iprop(held c cc0_stg0_0 (stg0 m c) ∗ held c cc0_stg1_0 (stg1 m c) ∗ held c cc0_stg2_0 (stg2 m c) ∗ held c cc0_stg3_0 (stg3 m c) ∗ held c cc0_stg4_0 (stg4 m c))

theorem snd_free : (iprop(∃ f, held (F := F) c cc0_scratch0 f) : sProp 𝕄) ⊢ bigSep Finset.univ (freeSlot sndM c) := by
  iintro ⟨%f, H⟩
  iapply (slots_of c sndM f)
  iapply (Entails.of_eq (owns_whole (c : Thread nD τ) cc0_scratch0 fullShare f).symm); iexact H
theorem lnd_free : (iprop(∃ f, held (F := F) c cc0_scratch2 f) : sProp 𝕄) ⊢ bigSep Finset.univ (freeSlot lndM c) := by
  iintro ⟨%f, H⟩
  iapply (slots_of c lndM f)
  iapply (Entails.of_eq (owns_whole (c : Thread nD τ) cc0_scratch2 fullShare f).symm); iexact H
theorem gat_free : (iprop(∃ f, held (F := F) c cc0_scratch3 f) : sProp 𝕄) ⊢ bigSep Finset.univ (freeSlot gatM c) := by
  iintro ⟨%f, H⟩
  iapply (slots_of c gatM f)
  iapply (Entails.of_eq (owns_whole (c : Thread nD τ) cc0_scratch3 fullShare f).symm); iexact H

/-- At the end the buffers are whole again. -/
theorem scratch_back : iprop(bigSep Finset.univ (freeSlot sndM c) ∗ owns (c : Thread nD τ) redM fullShare (redb m c) ∗ bigSep Finset.univ (freeSlot lndM c) ∗ bigSep Finset.univ (freeSlot gatM c))
    ⊢ (scratch c : sProp 𝕄) := by
  unfold scratch
  iintro ⟨HS, HR, HL, HG⟩
  isplitl [HS]
  · ihave H := (of_slots c sndM) $$ HS
    icases H with ⟨%f, H⟩
    iexists f
    iapply (Entails.of_eq (owns_whole (c : Thread nD τ) cc0_scratch0 fullShare f)); iexact H
  isplitl [HR]
  · iexists (redb m c)
    iapply (Entails.of_eq (owns_whole (c : Thread nD τ) cc0_scratch1 fullShare (redb m c))); iexact HR
  isplitl [HL]
  · ihave H := (of_slots c lndM) $$ HL
    icases H with ⟨%f, H⟩
    iexists f
    iapply (Entails.of_eq (owns_whole (c : Thread nD τ) cc0_scratch2 fullShare f)); iexact H
  ihave H := (of_slots c gatM) $$ HG
  icases H with ⟨%f, H⟩
  iexists f
  iapply (Entails.of_eq (owns_whole (c : Thread nD τ) cc0_scratch3 fullShare f)); iexact H

/-! ## From one phase to the next -/

theorem bar_begin : iprop(ow c 0 ∗ (bigSep Finset.univ fun j => dutyTok ER (kcell (nxt j c) (.inl 0)) 0 j) ∗ bigSep Finset.univ (freeSlot lndM c) ∗ bigSep Finset.univ (freeSlot gatM c))
    ⊢ (atBar c 0 : sProp 𝕄) := by
  unfold atBar
  rw [rest_zero, bigSep_univ_equiv oppE (freeSlot lndM c), bigSep_univ_equiv oppE (freeSlot gatM c)]
  unfold barTok
  rw [bigSep_sep', bigSep_sep']
  iintro ⟨HO, HT, HL, HG⟩
  isplitl [HO]; · iexact HO
  isplitl [HT]; · iexact HT
  isplitl [HL]; · iexact HL
  iexact HG

theorem one_begin : iprop(ow c 7 ∗ (bigSep Finset.univ fun j => freeSlot lndM (nxt j c) j) ∗ (bigSep Finset.univ fun j => dutyTok ER (kcell c (.inr (0, j))) 0 (0 : Fin 7))
      ∗ bigSep Finset.univ fun j => dutyTok ER (kcell (nxt j c) (.inr (1, j))) 0 (0 : Fin 7))
    ⊢ (atOne c 0 : sProp 𝕄) := by
  unfold atOne
  rw [rest_zero, done_zero]
  unfold oneTok
  rw [bigSep_sep', bigSep_sep']
  iintro ⟨HO, HL, HT, HU⟩
  isplitl [HO]; · iexact HO
  isplitl
  · isplitl [HL]; · iexact HL
    isplitl [HT] <;> iassumption
  iempintro

theorem two_begin : iprop(ow c 14 ∗ owns (c : Thread nD τ) redM fullShare (redb m c) ∗ (bigSep Finset.univ fun j => freeSlot gatM (nxt j c) j)
      ∗ (bigSep Finset.univ fun j => dutyTok ER (kcell c (.inr (2, j))) 0 (0 : Fin 7)) ∗ bigSep Finset.univ fun j => dutyTok ER (kcell (nxt j c) (.inr (3, j))) 0 (0 : Fin 7))
    ⊢ (atTwo m c 0 : sProp 𝕄) := by
  unfold atTwo
  rw [rest_zero, done_zero]
  unfold twoTok
  rw [bigSep_sep', bigSep_sep']
  iintro ⟨HO, HR, HL, HT, HU⟩
  isplitl [HO]; · iexact HO
  isplitl [HR]; · iexact HR
  isplitl
  · isplitl [HL]; · iexact HL
    isplitl [HT] <;> iassumption
  iempintro

theorem landings_begin (x : Fin 4) : iprop(bigSep Finset.univ (crTok c x) ∗ bigSep Finset.univ fun j => atPos ER (kcell c (.inr (x, j))) 0 ∅ 0) ⊢ (landings c x : sProp 𝕄) := by
  unfold landings wantTok
  rw [bigSep_sep']
  exact BI.Entails.refl _

theorem back_begin : iprop(ow c 21 ∗ landings c 0 ∗ landings c 2) ⊢ (back m c 0 0 : sProp 𝕄) := by
  unfold back backOne backTwo landings
  rw [rest_zero, rest_zero, done_zero, done_zero, done_zero, done_zero]
  iintro ⟨HO, H0, H2⟩
  isplitl [HO]; · iexact HO
  isplitl [H0]
  · isplitl [H0]; · iexact H0
    isplitr <;> iempintro
  isplitl [H2]; · iexact H2
  isplitr <;> iempintro

theorem inOne_end : inOne c 7 7 ⊢ (iprop(ow c 14 ∗ bigSep Finset.univ (hadTok c 1) ∗ bigSep Finset.univ (freeSlot lndM c)) : sProp 𝕄) := by
  unfold inOne
  rw [done_all, done_all]
  iintro ⟨HO, -, H, HL⟩
  isplitl [HO]; · iexact HO
  isplitl [H] <;> iassumption
theorem inTwo_end : inTwo c 7 7 ⊢ (iprop(ow c 21 ∗ bigSep Finset.univ (hadTok c 3) ∗ bigSep Finset.univ (freeSlot gatM c)) : sProp 𝕄) := by
  unfold inTwo
  rw [done_all, done_all]
  iintro ⟨HO, -, H, HL⟩
  isplitl [HO]; · iexact HO
  isplitl [H] <;> iassumption
theorem backOne_end : backOne c 7 ⊢ (iprop(bigSep Finset.univ (hadTok c 0) ∗ bigSep Finset.univ (freeSlot sndM c)) : sProp 𝕄) := by
  unfold backOne
  rw [done_all, done_all]
  iintro ⟨-, H, HS⟩
  isplitl [H] <;> iassumption
theorem backTwo_end : iprop(owns (c : Thread nD τ) redM (left 7) (redb m c) ∗ backTwo m c 7)
    ⊢ (iprop(bigSep Finset.univ (hadTok c 2) ∗ owns (c : Thread nD τ) redM fullShare (redb m c)) : sProp 𝕄) := by
  unfold backTwo
  rw [done_all (hadTok c 2)]
  iintro ⟨HR, -, H, HD⟩
  isplitl [H]; · iexact H
  iapply (red_back c (redb m c) 7 (le_refl _))
  isplitl [HR] <;> iassumption

theorem poss_end : iprop(atPos ER (kcell c (.inl 0)) 1 ∅ 0 ∗ atPos ER (kcell c (.inl 1)) 1 ∅ 0 ∗ bigSep Finset.univ (hadTok c 0) ∗ bigSep Finset.univ (hadTok c 1)
      ∗ bigSep Finset.univ (hadTok c 2) ∗ bigSep Finset.univ (hadTok c 3)) ⊢ (poss c 1 : sProp 𝕄) := by
  unfold poss
  rw [cells_split]
  unfold hadTok
  iintro ⟨HA, HE, H0, H1, H2, H3⟩
  isplitl [HA HE]
  · isplitl [HA] <;> iassumption
  isplitl [H0]; · iexact H0
  isplitl [H1]; · iexact H1
  isplitl [H2] <;> iassumption

/-! ## The whole body -/

variable (K : Dev nD × CI → ℕ)

theorem run_bind {α β : Type} {Q : β → sProp 𝕄} (p : Prog (TpuEff nD τ sig (Elt F) Λ₀ .tc) α) (k : α → Prog (TpuEff nD τ sig (Elt F) Λ₀ .tc) β) :
    run (F := F) c p (fun a => run (F := F) c (k a) Q) ⊢ run (F := F) c (p >>= k) Q := by
  unfold run; rw [wp_bind]

theorem ret_run_upd {α : Type} {Q : α → sProp 𝕄} (a : α) : iprop(|={Set.univ}=> Q a) ⊢ run (F := F) c (.ret a) Q := by
  unfold run; rw [wp_ret]

set_option maxHeartbeats 2000000 in
/-- The body run on device `c`. -/
theorem body_run {Q : PUnit → sProp 𝕄} :
    know m K ⊢ iprop(ow c 0 -∗ toks c -∗ poss c 0 -∗ creds c -∗ scratch c -∗ inputs m c -∗ (∃ f, held (F := F) c cc0_stg5_0 f)
      -∗ ((ow c 28 ∗ (bigSep Finset.univ fun i : CI => semVal (kcell c i) 0) ∗ scratch c ∗ inputs m c ∗ held c cc0_stg5_0 (outAt m c)) -∗ Q ⟨⟩)
      -∗ run (F := F) c (atArgs cc0__body) Q) := by
  rw [cc0__body_eq_skeleton]; unfold cc0__body_skel
  have hback := scratch_back (F := F) m c
  unfold scratch at hback
  iintro #HK HO HT HP HC HS HI ⟨%fo, Hout⟩ Hk
  unfold toks poss creds scratch inputs
  icases HT with ⟨HTb, HTe, HT0, HT1, HT2, HT3⟩
  ihave HP := (Entails.of_eq (cells_split fun i : CI => atPos ER (kcell c i) 0 ∅ 0)) $$ HP
  icases HP with ⟨⟨HPb, HPe⟩, HP0, HP1, HP2, HP3⟩
  icases HC with ⟨HCb, HCe, HC1, HC3⟩
  icases HS with ⟨HS0, HS1, HS2, HS3⟩
  icases HI with ⟨H0, H1, H2, H3, H4⟩
  ihave HF := (snd_free c) $$ HS0
  ihave HLf := (lnd_free c) $$ HS2
  ihave HGf := (gat_free c) $$ HS3
  ihave HW1 := (landings_begin c 1) $$ [HC1 HP1]
  · isplitl [HC1] <;> iassumption
  ihave HW3 := (landings_begin c 3) $$ [HC3 HP3]
  · isplitl [HC3] <;> iassumption
  ihave Hout := (Entails.of_eq (owns_whole (c : Thread nD τ) cc0_stg5_0 fullShare fo).symm) $$ Hout
  ihave Hout := (cols_of m c fo) $$ Hout
  icases Hout with ⟨Hown, Hcol⟩
  ihave HA := (bar_begin c) $$ [HO HTb HLf HGf]
  · isplitl [HO]; · iexact HO
    isplitl [HTb]; · iexact HTb
    isplitl [HLf] <;> iassumption
  ihave HF := (Entails.of_eq (rest_zero (freeSlot sndM c)).symm) $$ HF
  iapply (run_bind c); iapply (part1 m K c) $$ HK HA; iintro %v2 %v24 HA; try dsimp only
  iapply (run_bind c); iapply (part2 m K c v2 v24 _ _ rfl) $$ HK HA [HPb HCb] H0 H1 H3 H4
  · isplitl [HCb] <;> iassumption
  iintro ⟨HO, HPb, HL, HG, H0, H1, H3, H4⟩; try dsimp only
  iapply (run_bind c); iapply (part3 m c) $$ H3 H4; iintro ⟨H3, H4⟩; try dsimp only
  iapply (run_bind c); iapply (part4 m c) $$ H3 H4; iintro ⟨H3, H4⟩; try dsimp only
  iapply (run_bind c); iapply (part5 m c) $$ H3 H4 H2; iintro %v168 ⟨H3, H4, H2⟩; try dsimp only
  ihave HA := (one_begin c) $$ [HO HL HT0 HT1]
  · isplitl [HO]; · iexact HO
    isplitl [HL]; · iexact HL
    isplitl [HT0] <;> iassumption
  iapply (run_bind c); iapply (part6 m K c v2 _ rfl v168 _ rfl) $$ HK HA HF H2; iintro %w6 ⟨HA, HM, HF, H2⟩; try dsimp only
  iapply (run_bind c); iapply (part7 m K c v2 _ rfl) $$ HK HA HM HF H2; iintro %w7 %w7' ⟨HA, HF, H2⟩; try dsimp only
  iapply (run_bind c); iapply (part8 m K c v2 _ rfl _ _ rfl) $$ HK HA HF H2; iintro %w8 ⟨HA, HM, HF, H2⟩; try dsimp only
  iapply (run_bind c); iapply (part9 m K c v2 _ rfl) $$ HK HA HM HF H2; iintro %w9 %w9' ⟨HA, HF, H2⟩; try dsimp only
  iapply (run_bind c); iapply (part10 m K c v2 _ rfl _ _ _ rfl) $$ HK HA HF H2 HW1; iintro ⟨HB, HM, HC0, H2⟩; try dsimp only
  iapply (run_bind c); iapply (part11 m K c) $$ HK HB HM; iintro HB; try dsimp only
  iapply (run_bind c); iapply (part12 m K c) $$ HK HB; iintro HB; try dsimp only
  iapply (run_bind c); iapply (part13 m K c v2 _ _ rfl) $$ HK HB Hown HS1; iintro %w13 ⟨HB, Hown, HR⟩; try dsimp only
  ihave HB := (inOne_end c) $$ HB
  icases HB with ⟨HO, HD1, HLf⟩
  ihave HA := (two_begin m c) $$ [HO HR HG HT2 HT3]
  · isplitl [HO]; · iexact HO
    isplitl [HR]; · iexact HR
    isplitl [HG]; · iexact HG
    isplitl [HT2] <;> iassumption
  iapply (run_bind c); iapply (part14 m K c) $$ HK HA; iintro %a14 %b14 %d14 HA; try dsimp only
  iapply (run_bind c); iapply (part15 m K c) $$ HK HA; iintro %a15 %b15 %d15 HA; try dsimp only
  iapply (run_bind c); iapply (part16 m K c) $$ HK HA HW3 Hcol; iintro ⟨HB, HM, Hcol, HR, HC2⟩; try dsimp only
  iapply (run_bind c); iapply (part17 m K c) $$ HK HB HM Hcol; iintro ⟨HB, Hcol⟩; try dsimp only
  iapply (run_bind c); iapply (part18 m K c) $$ HK HB Hcol; iintro %w18 ⟨HB, Hcol⟩; try dsimp only
  iapply (run_bind c); iapply (part19 m K c) $$ HK HB Hcol; iintro ⟨HB, Hcol⟩; try dsimp only
  ihave HB := (inTwo_end c) $$ HB
  icases HB with ⟨HO, HD3, HGf⟩
  ihave HW0 := (landings_begin c 0) $$ [HC0 HP0]
  · isplitl [HC0] <;> iassumption
  ihave HW2 := (landings_begin c 2) $$ [HC2 HP2]
  · isplitl [HC2] <;> iassumption
  ihave HB := (back_begin m c) $$ [HO HW0 HW2]
  · isplitl [HO]; · iexact HO
    isplitl [HW0] <;> iassumption
  iapply (run_bind c); iapply (part20 m K c) $$ HK HB; iintro HB; try dsimp only
  iapply (run_bind c); iapply (part21 m K c) $$ HK HB; iintro HB; try dsimp only
  iapply (run_bind c); iapply (part22 m K c) $$ HK HB; iintro HB; try dsimp only
  ihave HTe := (Entails.of_eq (rest_zero (exitTok c)).symm) $$ [HTe]
  · iexact HTe
  iapply (run_bind c); iapply (part23 m K c) $$ HK HB HTe; iintro %w23 ⟨HA, HB0, HB2⟩; try dsimp only
  simp only [semSignalWord, semWaitWord, Prog.lift, Prog.bind_op, Prog.bind_ret, Prog.pure_eq_ret]
  iapply (exit_step m K c 5 (n := 5) rfl (dv (k0_dev27_lt c) (k0_dev27_eq c)) rfl rfl) $$ HK HA; iintro HA
  iapply (exit_step m K c 6 (n := 6) rfl (dv (k0_dev28_lt c) (k0_dev28_eq c)) rfl rfl) $$ HK HA; iintro HA
  iapply (exit_wait m K c rfl rfl) $$ HK HA [HCe HPe]
  · isplitl [HCe] <;> iassumption
  iintro ⟨HO, HPe⟩
  ihave HB0 := (backOne_end c) $$ HB0
  icases HB0 with ⟨HD0, HF⟩
  ihave HB2 := (backTwo_end m c) $$ [HR HB2]
  · isplitl [HR] <;> iassumption
  icases HB2 with ⟨HD2, HR⟩
  ihave HP := (poss_end c) $$ [HPb HPe HD0 HD1 HD2 HD3]
  · isplitl [HPb]; · iexact HPb
    isplitl [HPe]; · iexact HPe
    isplitl [HD0]; · iexact HD0
    isplitl [HD1]; · iexact HD1
    isplitl [HD2] <;> iassumption
  iapply (ret_run_upd c)
  unfold poss
  imod (cells_close m c K) $$ HK HP with HZ
  imodintro
  iapply Hk
  isplitl [HO]; · iexact HO
  isplitl [HZ]; · iexact HZ
  isplitl [HF HR HLf HGf]
  · iapply hback
    isplitl [HF]; · iexact HF
    isplitl [HR]; · iexact HR
    isplitl [HLf] <;> iassumption
  isplitl [H0 H1 H2 H3 H4]
  · isplitl [H0]; · iexact H0
    isplitl [H1]; · iexact H1
    isplitl [H2]; · iexact H2
    isplitl [H3] <;> iassumption
  iapply (Entails.of_eq (owns_whole (c : Thread nD τ) cc0_stg5_0 fullShare (outAt m c)))
  iapply (of_cols m c)
  isplitl [Hown] <;> iassumption

end

end Cert.Exchange

end
-- ==== Proof.Launch.lean ====
/-
# 01_k — the launch on the eight devices

The proof data of the one pipeline, its body's obligation, the tokens and credits the launch hands out, and the run of `main`:
every execution ends, each device's result holds `outAt`, the five arguments are as they were and every counter is at zero.
-/
module

public import proofs.«01_k».proof.Proof.Body
public import Idealize.ShloMosaic.Lib.Pipeline.CollectiveSegs

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The proof data -/

/-- What a device is given when its cells are set up. -/
def deal (c : Dev nD) : sProp 𝕄 := iprop(∃ K, recs m K ∗ poss c 0 ∗ toks c)
/-- What its body starts from, and what it leaves. -/
def start (c : Dev nD) : sProp 𝕄 := iprop(deal m c ∗ creds c ∗ levAts L lv)
def Φ₀ (c : Dev nD) : sProp 𝕄 := iprop(start m c ∗ scratch c)
def Φ₁ (c : Dev nD) : sProp 𝕄 := iprop(scratch (F := F) c ∗ bigSep Finset.univ fun i : CI => semVal (kcell c i) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => stg0 m c
    | ⟨1, _⟩ => stg1 m c
    | ⟨2, _⟩ => stg2 m c
    | ⟨3, _⟩ => stg3 m c
    | ⟨4, _⟩ => stg4 m c
    | ⟨5, _⟩ => outAt m c
  Φ t := match t with
    | ⟨0, _⟩ => Φ₀ m c
    | ⟨_ + 1, _⟩ => Φ₁ c
  q _ := fullShare
  owed t := match t with
    | ⟨0, _⟩ => owed c 0
    | ⟨_ + 1, _⟩ => 0

/-- A staging buffer holding `X`, as the pipeline states it. -/
abbrev staged (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

theorem held_of_staged (c : Dev nD) (b : Ref sig .tc) (X : b.ty.Contents (Elt F)) : staged c b X ⊢ (held c b X : sProp 𝕄) := by
  iintro ⟨%f, %hf, H⟩
  subst hf
  iexact H
theorem staged_of_held (c : Dev nD) (b : Ref sig .tc) (X : b.ty.Contents (Elt F)) : held c b X ⊢ (staged c b X : sProp 𝕄) := by
  iintro H
  iexists X
  isplitr; · ipureintro; rfl
  iexact H

def bodyPre (c : Dev nD) : sProp 𝕄 :=
  iprop(Φ₀ m c ∗ (dats m ρ 0 c).owesAt () t0_0.castSucc
    ∗ (∃ d, staged c cc0_stg0_0 ((dats m ρ 0 c).before (0 : Fin 6) t0_0 d)) ∗ (∃ d, staged c cc0_stg1_0 ((dats m ρ 0 c).before (1 : Fin 6) t0_0 d))
    ∗ (∃ d, staged c cc0_stg2_0 ((dats m ρ 0 c).before (2 : Fin 6) t0_0 d)) ∗ (∃ d, staged c cc0_stg3_0 ((dats m ρ 0 c).before (3 : Fin 6) t0_0 d))
    ∗ (∃ d, staged c cc0_stg4_0 ((dats m ρ 0 c).before (4 : Fin 6) t0_0 d)) ∗ (∃ d, staged c cc0_stg5_0 ((dats m ρ 0 c).before (5 : Fin 6) t0_0 d)))
def bodyPost (c : Dev nD) : sProp 𝕄 :=
  iprop(Φ₁ c ∗ (dats m ρ 0 c).owesAt () t0_0.succ
    ∗ staged c cc0_stg0_0 (stg0 m c) ∗ staged c cc0_stg1_0 (stg1 m c) ∗ staged c cc0_stg2_0 (stg2 m c) ∗ staged c cc0_stg3_0 (stg3 m c)
    ∗ staged c cc0_stg4_0 (stg4 m c) ∗ staged c cc0_stg5_0 (outAt m c))

theorem pre_intro (c : Dev nD) : bodyPre m ρ c
    ⊢ (iprop(∃ K, know m K ∗ ow c 0 ∗ toks c ∗ poss c 0 ∗ creds c ∗ scratch c ∗ inputs m c ∗ ∃ f, held (F := F) c cc0_stg5_0 f) : sProp 𝕄) := by
  have e0 : ∀ d, (dats m ρ 0 c).before (0 : Fin 6) t0_0 d = stg0 m c := fun d => by unfold Dat.before; rw [if_pos (fetch0_0 t0_0)]; rfl
  have e1 : ∀ d, (dats m ρ 0 c).before (1 : Fin 6) t0_0 d = stg1 m c := fun d => by unfold Dat.before; rw [if_pos (fetch0_1 t0_0)]; rfl
  have e2 : ∀ d, (dats m ρ 0 c).before (2 : Fin 6) t0_0 d = stg2 m c := fun d => by unfold Dat.before; rw [if_pos (fetch0_2 t0_0)]; rfl
  have e3 : ∀ d, (dats m ρ 0 c).before (3 : Fin 6) t0_0 d = stg3 m c := fun d => by unfold Dat.before; rw [if_pos (fetch0_3 t0_0)]; rfl
  have e4 : ∀ d, (dats m ρ 0 c).before (4 : Fin 6) t0_0 d = stg4 m c := fun d => by unfold Dat.before; rw [if_pos (fetch0_4 t0_0)]; rfl
  unfold bodyPre Φ₀ start deal know ow inputs Dat.owesAt Pipeline.owesWithin
  iintro ⟨⟨⟨⟨%K, HR, HP, HT⟩, HC, HL⟩, HS⟩, ⟨%W, -, HO⟩, ⟨%d0, H0⟩, ⟨%d1, H1⟩, ⟨%d2, H2⟩, ⟨%d3, H3⟩, ⟨%d4, H4⟩, ⟨%d5, %f5, -, H5⟩⟩
  iexists K
  isplitl [HR HL]
  · isplitl [HR] <;> iassumption
  isplitl [HO]
  · iexists W; iexact HO
  isplitl [HT]; · iexact HT
  isplitl [HP]; · iexact HP
  isplitl [HC]; · iexact HC
  isplitl [HS]; · iexact HS
  isplitr [H5]
  · isplitl [H0]
    · rw [e0]; iapply (held_of_staged c cc0_stg0_0 (stg0 m c)); iexact H0
    isplitl [H1]
    · rw [e1]; iapply (held_of_staged c cc0_stg1_0 (stg1 m c)); iexact H1
    isplitl [H2]
    · rw [e2]; iapply (held_of_staged c cc0_stg2_0 (stg2 m c)); iexact H2
    isplitl [H3]
    · rw [e3]; iapply (held_of_staged c cc0_stg3_0 (stg3 m c)); iexact H3
    rw [e4]; iapply (held_of_staged c cc0_stg4_0 (stg4 m c)); iexact H4
  iexists f5; iexact H5

theorem post_intro (c : Dev nD) :
    iprop(ow c 28 ∗ (bigSep Finset.univ fun i : CI => semVal (kcell c i) 0) ∗ scratch c ∗ inputs m c ∗ held c cc0_stg5_0 (outAt m c)) ⊢ (bodyPost m ρ c : sProp 𝕄) := by
  unfold bodyPost Φ₁ ow inputs Dat.owesAt Pipeline.owesWithin
  rw [owed_end, show (dats m ρ 0 c).owed t0_0.succ = 0 from rfl]
  iintro ⟨⟨%W, HO⟩, HZ, HS, ⟨H0, H1, H2, H3, H4⟩, H5⟩
  isplitl [HZ HS]
  · isplitl [HS] <;> iassumption
  isplitl [HO]
  · iexists W
    isplitr; · ipureintro; exact fun _ _ => Or.inl trivial
    iexact HO
  isplitl [H0]; · iapply (staged_of_held c cc0_stg0_0 (stg0 m c)); iexact H0
  isplitl [H1]; · iapply (staged_of_held c cc0_stg1_0 (stg1 m c)); iexact H1
  isplitl [H2]; · iapply (staged_of_held c cc0_stg2_0 (stg2 m c)); iexact H2
  isplitl [H3]; · iapply (staged_of_held c cc0_stg3_0 (stg3 m c)); iexact H3
  isplitl [H4]; · iapply (staged_of_held c cc0_stg4_0 (stg4 m c)); iexact H4
  iapply (staged_of_held c cc0_stg5_0 (outAt m c)); iexact H5

theorem body_sound (c : Dev nD) : bodyPre m ρ c ⊢ run (F := F) c (atArgs cc0__body) (fun _ => bodyPost m ρ c) := by
  refine (pre_intro m ρ c).trans ?_
  show (_ : sProp 𝕄) ⊢ _
  iintro ⟨%K, #HK, HO, HT, HP, HC, HS, HI, H5⟩
  iapply (body_run m c K) $$ HK HO HT HP HC HS HI H5
  iintro H
  iapply (post_intro m ρ c); iexact H

set_option maxRecDepth 65536 in
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  exact body_sound m ρ c

/-! ## The launch -/

/-- The counters a device has of its own: its exit's and its transfers'. -/
abbrev osem : Unit ⊕ Fin 4 × Fin 7 → SemLoc sig
  | .inl _ => csem (.inl 1)
  | .inr p => csem (.inr p)

theorem stage_level : ∀ (w : Fin cfg0.W) (s : Fin (cfg0.win w).nbuf), cellIx (.dma ((cfg0.win w).sem s)) = none := by decide

theorem ownSemFacts : Pipeline.OwnSemFacts cfg0.spec osem where
  isScoped := by
    rintro (_ | p)
    · rfl
    · revert p; decide
  inj := by
    rintro (_ | p) (_ | p') h
    · rfl
    · exact absurd (csem_inj h) (by simp)
    · exact absurd (csem_inj h) (by simp)
    · exact congrArg Sum.inr (Sum.inr_injective (csem_inj h))
  disj := by
    intro k w s h
    have h' := congrArg cellIx h
    rw [stage_level w s] at h'
    rcases k with _ | p <;> exact absurd ((cellIx_csem _).symm.trans h') (by simp)

theorem share_eq (c : Dev nD) (w : Fin cfg0.W) : (dats m ρ 0 c).share w = fullShare := by unfold Dat.share; split <;> rfl

theorem kcell_injective : Function.Injective fun ci : Dev nD × CI => kcell ci.1 ci.2 := by
  rintro ⟨c, i⟩ ⟨c', i'⟩ h
  have h1 : c = c' := congrArg (fun g : GSem nD τ sig => g.1.1) h
  have h2 : i = i' := csem_inj (congrArg Prod.snd h)
  rw [h1, h2]
def allCells : Finset (GSem nD τ sig) := Finset.univ.map ⟨fun ci : Dev nD × CI => kcell ci.1 ci.2, kcell_injective⟩

/-- The duties of a device's cells: seven of its barrier's and of its exit's, one of each transfer's. -/
abbrev TI : Type := Fin 2 × Fin 7 ⊕ Fin 4 × Fin 7
def tokCell : TI → CI × Fin 7
  | .inl (x, d) => (.inl x, d)
  | .inr p => (.inr p, 0)
theorem tokCell_injective : Function.Injective tokCell := by
  rintro (⟨x, d⟩ | p) (⟨x', d'⟩ | p') h <;> simp_all [tokCell]
def tokOf (ct : Dev nD × TI) : GSem nD τ sig × ℕ × Fin 7 := (kcell ct.1 (tokCell ct.2).1, 0, (tokCell ct.2).2)
theorem tokOf_injective : Function.Injective tokOf := by
  rintro ⟨c, t⟩ ⟨c', t'⟩ h
  have h1 := kcell_injective (a₁ := (c, (tokCell t).1)) (a₂ := (c', (tokCell t').1)) (congrArg Prod.fst h)
  have h2 : (tokCell t).2 = (tokCell t').2 := congrArg (fun x : GSem nD τ sig × ℕ × Fin 7 => x.2.2) h
  have h3 : t = t' := tokCell_injective (Prod.ext (congrArg Prod.snd h1) h2)
  have h4 : c = c' := congrArg Prod.fst h1
  rw [h4, h3]
def allToks : Finset (GSem nD τ sig × ℕ × Fin 7) := Finset.univ.map ⟨tokOf, tokOf_injective⟩

def u₀ : UU :=
  (initOf (Pipeline.cells cfgs cellOf_inj) (Pipeline.launchToks cfgs cellOf_inj), initOf allCells allToks)

/-- The duties of device `c`'s own cells. -/
def minted (c : Dev nD) : sProp 𝕄 := bigSep Finset.univ fun t : TI => dutyTok ER (kcell c (tokCell t).1) 0 (tokCell t).2
def states (c : Dev nD) : sProp 𝕄 := bigSep Finset.univ fun i : CI => roundState ER (rd m) (kcell c i) 0
def spots (c : Dev nD) : sProp 𝕄 := bigSep Finset.univ fun i : CI => iprop(atPos ER (kcell c i) 0 ∅ 0 ∗ reached ER (kcell c i) 0)
def G (c : Dev nD) : sProp 𝕄 := iprop(states m c ∗ spots c ∗ minted c)

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun i : CI => Φ (kcell c i) := by
    unfold allCells; rw [bigSep_map, bigSep_univ_prod]; rfl
  have hT : bigSep allToks (fun x => (dutyTok ER x.1 x.2.1 x.2.2 : sProp 𝕄)) = bigSep Finset.univ fun c : Dev nD => minted c := by
    unfold allToks; rw [bigSep_map, bigSep_univ_prod]; rfl
  iintro HX
  imod (Rounds.fund ER (rd m) allCells allToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G states spots; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = iprop(semVal (kcell c (.inl 1)) 0 ∗ bigSep Finset.univ fun p : Fin 4 × Fin 7 => semVal (kcell c (.inr p)) 0) := by
  unfold Pipeline.ownSems0
  rw [bigSep_univ_sum, bigSep_univ_eq_bigSepL [()] (by decide) (by decide)]; rfl
theorem unscopedSems0_eq (c : Dev nD) : (unscopedSems0 c : sProp 𝕄) = semVal (kcell c (.inl 0)) 0 := by
  unfold unscopedSems0; rw [bigSep_eq_bigSepL_of_eq [SemLoc.reg barS] (by decide) (by decide)]; rfl
theorem counters_eq (c : Dev nD) : (bigSep Finset.univ fun i : CI => semVal (kcell c i) 0 : sProp 𝕄)
    = iprop((semVal (kcell c (.inl 0)) 0 ∗ semVal (kcell c (.inl 1)) 0) ∗ bigSep Finset.univ fun p : Fin 4 × Fin 7 => semVal (kcell c (.inr p)) 0) := by
  rw [bigSep_univ_sum, bigSep_two]; rfl

/-- The cells of a device set up. -/
theorem alloc_cells (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i : CI => iprop(∃ κ : ℕ, cellInv ER (rd m) κ (kcell c i))) ∗ spots c ∗ minted c) := by
  unfold G states
  rw [ownSems0_eq, unscopedSems0_eq]
  iintro ⟨⟨Hx, Hos⟩, Hus, Hst, Hat, Htok⟩
  ihave Hv := (Entails.of_eq (counters_eq (F := F) c).symm) $$ [Hx Hos Hus]
  · isplitr [Hos]
    · isplitl [Hus] <;> iassumption
    iexact Hos
  imod (show iprop((bigSep Finset.univ fun i : CI => semVal (kcell c i) 0) ∗ bigSep Finset.univ fun i : CI => roundState ER (rd m) (kcell c i) 0)
      ⊢ (|={Set.univ}=> bigSep Finset.univ fun i : CI => iprop(∃ κ : ℕ, cellInv ER (rd m) κ (kcell c i)) : sProp 𝕄) from by
        rw [← bigSep_sep']
        exact (bigSep_mono fun i _ => (Rounds.body_intro ER (rd m) (kcell c i)).trans inv_alloc).trans (bigSep_fupd _ _)) $$ [Hv Hst] with Hinv
  · isplitl [Hv] <;> iassumption
  imodintro
  isplitl [Hinv]; · iexact Hinv
  isplitl [Hat]; · iexact Hat
  iexact Htok

/-- Something of each device and each `j`, handed to the device `j + 1` places before. -/
theorem around (Φ : Dev nD → Fin 7 → sProp 𝕄) : (bigSep Finset.univ fun c : Dev nD => bigSep Finset.univ fun j => Φ c j)
    = bigSep Finset.univ fun c : Dev nD => bigSep Finset.univ fun j => Φ (nxt j c) j := by
  rw [bigSep_univ_comm Φ, bigSep_congr (s := Finset.univ) (fun (j : Fin 7) _ => bigSep_univ_equiv (turn j) fun c => Φ c j)]
  exact (bigSep_univ_comm fun c j => Φ (nxt j c) j).symm

theorem minted_split (c : Dev nD) : (minted c : sProp 𝕄)
    = iprop(((bigSep Finset.univ fun j => dutyTok ER (kcell c (.inl 0)) 0 j) ∗ (bigSep Finset.univ fun j => dutyTok ER (kcell c (.inl 1)) 0 j))
      ∗ (bigSep Finset.univ fun j => dutyTok ER (kcell c (.inr (0, j))) 0 (0 : Fin 7)) ∗ (bigSep Finset.univ fun j => dutyTok ER (kcell c (.inr (1, j))) 0 (0 : Fin 7))
      ∗ (bigSep Finset.univ fun j => dutyTok ER (kcell c (.inr (2, j))) 0 (0 : Fin 7)) ∗ bigSep Finset.univ fun j => dutyTok ER (kcell c (.inr (3, j))) 0 (0 : Fin 7)) := by
  unfold minted
  rw [bigSep_univ_sum, bigSep_univ_prod, bigSep_two, bigSep_univ_prod, bigSep_four]; rfl

/-- Each duty goes to the device that pays it. -/
theorem toks_around : (bigSep Finset.univ fun c : Dev nD => (minted c : sProp 𝕄)) ⊢ bigSep Finset.univ fun c : Dev nD => toks c := by
  rw [bigSep_congr (s := Finset.univ) (fun (c : Dev nD) _ => minted_split (F := F) c)]
  unfold toks
  simp only [bigSep_sep']
  rw [around fun c j => dutyTok ER (kcell c (.inl 0)) 0 j, around fun c j => dutyTok ER (kcell c (.inl 1)) 0 j,
    around fun c j => dutyTok ER (kcell c (.inr (1, j))) 0 (0 : Fin 7), around fun c j => dutyTok ER (kcell c (.inr (3, j))) 0 (0 : Fin 7)]
  iintro ⟨⟨H1, H2⟩, H3, H4, H5, H6⟩
  isplitl [H1]; · iexact H1
  isplitl [H2]; · iexact H2
  isplitl [H3]; · iexact H3
  isplitl [H4]; · iexact H4
  isplitl [H5] <;> iassumption

theorem each_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem deal_intro (K : Dev nD × CI → ℕ) (c : Dev nD) : iprop(recs m K ∗ poss c 0 ∗ toks c) ⊢ (deal m c : sProp 𝕄) := by
  unfold deal
  iintro H
  iexists K; iexact H

theorem regroup :
    (bigSep Finset.univ fun c : Dev nD => iprop((bigSep Finset.univ fun i : CI => iprop(∃ κ : ℕ, cellInv ER (rd m) κ (kcell c i))) ∗ spots c ∗ minted c) : sProp 𝕄)
      ⊢ bigSep Finset.univ (deal m) := by
  unfold spots
  rw [bigSep_sep', bigSep_sep', ← bigSep_univ_prod (fun ck : Dev nD × CI => iprop(∃ κ : ℕ, cellInv ER (rd m) κ (kcell ck.1 ck.2))),
    bigSep_congr (s := Finset.univ) (fun (c : Dev nD) _ => bigSep_sep' Finset.univ (fun i : CI => (atPos ER (kcell c i) 0 ∅ 0 : sProp 𝕄)) (fun i => reached ER (kcell c i) 0)),
    bigSep_sep', ← bigSep_univ_prod (fun ck : Dev nD × CI => (reached ER (kcell ck.1 ck.2) 0 : sProp 𝕄))]
  iintro ⟨HI, ⟨Hat, #HR⟩, Htok⟩
  ihave HK := (BI.bigSep_exists_pi Finset.univ (fun (ck : Dev nD × CI) (κ : ℕ) => (cellInv ER (rd m) κ (kcell ck.1 ck.2) : sProp 𝕄))) $$ HI
  icases HK with ⟨%K, #HI⟩
  ihave Htk := (toks_around (F := F)) $$ Htok
  iapply (each_with (R := recs m K) fun c _ => deal_intro m K c)
  isplitr
  · unfold recs; isplitl; · iexact HI
    iexact HR
  · iapply (Entails.of_eq (bigSep_sep' Finset.univ (fun c : Dev nD => (poss c 0 : sProp 𝕄)) toks).symm)
    isplitl [Hat]; · unfold poss; iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (deal m) :=
  ((bigSep_mono fun c _ => alloc_cells m c).trans (bigSep_fupd _ _)).trans (BI.fupd_mono (regroup m))

/-! ### What a device is owed at the launch -/

/-- How many of the twenty-eight payments of a device go to a cell of kind `i`. -/
def times (i : CI) : ℕ := ((Finset.Ico 0 28).filter fun k => dueCI k = i).card

omit [FloatOps F] in
theorem due_at (d c : Dev nD) (k : ℕ) (i : CI) : due d k (kcell c i) () = if d = prv (Fin.ofNat 7 (k % 7)) c then (if dueCI k = i then amountOf i else 0) else 0 := by
  unfold due dueCell
  rw [tallyAt_apply]
  by_cases h : d = prv (Fin.ofNat 7 (k % 7)) c
  · subst h
    rw [if_pos rfl, nxt_prv]
    by_cases h' : dueCI k = i
    · rw [if_pos h', if_pos ⟨by rw [h'], rfl⟩, h']
    · rw [if_neg h', if_neg fun e => h' (csem_inj (congrArg Prod.snd e.1)).symm]
  · rw [if_neg h, if_neg fun e => h (by
      rw [← prv_nxt (Fin.ofNat 7 (k % 7)) d]
      exact congrArg (prv _) (congrArg (fun g : GSem nD τ sig => g.1.1) e.1).symm)]

omit [FloatOps F] in
theorem launch_at (c : Dev nD) (i : CI) :
    tallyOn (kcell c i) (launchCredit (Pipeline.owing fun d => owed d 0) 0 (kcell c i)) = (tallyAt (kcell c i) () (times i * amountOf i) : CellTallies nD τ sig Unit) := by
  unfold tallyAt; refine congrArg _ (Finsupp.ext fun u => ?_); cases u
  rw [Pipeline.launchCredit_owing, Finsupp.single_eq_same]
  have h : ∀ d : Dev nD, owed d 0 (kcell c i) () = ∑ k ∈ Finset.Ico 0 28, if d = prv (Fin.ofNat 7 (k % 7)) c then (if dueCI k = i then amountOf i else 0) else 0 := fun d => by
    unfold owed
    rw [Finset.sum_apply, Finsupp.finset_sum_apply]
    exact Finset.sum_congr rfl fun k _ => due_at d c k i
  rw [Finset.sum_congr rfl fun d _ => h d, Finset.sum_comm, Finset.sum_congr rfl fun k _ => Finset.sum_ite_eq' Finset.univ (prv (Fin.ofNat 7 (k % 7)) c) _]
  simp only [Finset.mem_univ, if_true]
  rw [← Finset.sum_filter, Finset.sum_const, smul_eq_mul]
  rfl

theorem times_reg (x : Fin 2) : times (.inl x) * amountOf (.inl x) = 7 := by
  have h : ∀ x : Fin 2, times (.inl x) = 7 := by decide
  rw [h x]; rfl
theorem times_xfer (x : Fin 4) (hx : x = 1 ∨ x = 3) (j : Fin 7) : times (.inr (x, j)) * amountOf (.inr (x, j)) = N := by
  have h : ∀ j : Fin 7, times (.inr (1, j)) = 1 ∧ times (.inr (3, j)) = 1 := by decide
  rcases hx with rfl | rfl
  · rw [(h j).1]; exact Nat.one_mul _
  · rw [(h j).2]; exact Nat.one_mul _

theorem creds_intro (c : Dev nD) : (Pipeline.launchCred (fun d => owed d 0) c : sProp 𝕄) ⊢ creds c := by
  have h : (Pipeline.launchCred (fun d => owed d 0) c : sProp 𝕄) ⊢ bigSep Finset.univ fun i : CI => cred (tallyAt (kcell c i) () (times i * amountOf i)) := by
    unfold Pipeline.launchCred
    refine BI.Entails.trans (bigSep_subset (Finset.subset_univ (Finset.univ.map ⟨csem, csem_inj⟩))) ?_
    rw [bigSep_map]
    exact Entails.of_eq (bigSep_congr fun i _ => congrArg cred (launch_at c i))
  refine h.trans ?_
  rw [cells_split]
  unfold creds crTok
  simp only [times_reg, times_xfer 1 (Or.inl rfl), times_xfer 3 (Or.inr rfl)]
  show (_ : sProp 𝕄) ⊢ _
  iintro ⟨⟨H0, H1⟩, -, H3, -, H4⟩
  isplitl [H0]; · iexact H0
  isplitl [H1]; · iexact H1
  isplitl [H3] <;> iassumption

/-! ### The run -/

theorem start_intro (c : Dev nD) :
    iprop(Pipeline.unscopedRestP Pipeline.Prefetch.none cfg0.spec c (fun b => m ((c : Thread nD τ).loc b)) ∗ levAts L lv
        ∗ Pipeline.launchCred (fun d => owed d 0) c ∗ prngReg c (ρ c) ∗ deal m c)
      ⊢ |={Set.univ}=> iprop(start m c ∗ emp) := by
  iintro ⟨-, Hlev, Hcr, -, HG⟩
  ihave Hc := (creds_intro (F := F) c) $$ Hcr
  imodintro
  unfold start
  isplitl
  · isplitl [HG]; · iexact HG
    isplitl [Hc] <;> iassumption
  · iempintro

theorem scratch_eq (c : Dev nD) : (scratch c : sProp 𝕄) = Pipeline.scopedRest cfg0.spec c := (scopedRest0_eq c).symm

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, ← scratch_eq]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, ← scratch_eq, ownSems0_eq, unscopedSems0_eq]
  unfold Φ₁
  rw [counters_eq]
  iintro ⟨Hr, ⟨Hb, Hx⟩, Hz⟩
  isplitl [Hb]; · iexact Hb
  isplitl [Hx Hz]
  · isplitl [Hx] <;> iassumption
  iexact Hr

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · refine mayWait c _ 0 ?_
      have h : lv ((c : Thread nD τ), .dma ((cfg0.win w).sem s)) () = 0 := by unfold lv; rw [stage_level w s]
      exact h.le
    · show (levAts L lv : sProp 𝕄) ⊢ MayWait (c : Thread nD τ) _ () 0
      rw [MayWait_zero]; iintro -; iempintro

/-- What an array holds after the run. -/
def finalA (c : Dev nD) (w : Fin cfg0.W) : Buf (Elt F) ((cfg0.win w).arr.view.loc (c : Thread nD τ)) := (dats m ρ 0 c).arrAt w cfg0.N

set_option maxRecDepth 8000 in
/-- Every execution of `main` on the eight devices, from any memory with the counters at zero, ends; then each array holds
    `finalA` and every counter is at zero. -/
theorem run_main : θ_run defs (onTc (τ := τ) (main (F := F))) (s₀ m ρ)
    (fun r => (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun d => owed d 0) (howed₀ := fun _ => rfl) (howedN := fun _ => rfl)
    (L := L) (lv := lv) (hL := L_of_ne) (hwaits := waits m ρ)
    (G := G m) (G' := deal m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Exchange

end
-- ==== Proof.Frames.lean ====
/-
# 01_k — the frames

What the run of `main` leaves in the five arguments and in the result, and from it the frames of the kernel (at words and at
extended reals) and of the reference.
-/
module

public import proofs.«01_k».proof.Defs
public import proofs.«01_k».proof.Proof.Launch
public import proofs.«01_k».proof.Proof.Gen.Kernel
public import proofs.«01_k».proof.Proof.Gen.ReferenceIdeal
public import proofs.«01_k».proof.Proof.Gen.ReferenceIdeal.Run
public import Idealize.ShloMosaic.Lib.Pipeline.Value
public import Idealize.ShloMosaic.Lib.Pipeline.ValueKit
public import Idealize.ShloMosaic.Lib.Quiescent

@[expose] public section

noncomputable section

namespace Cert.Exchange

open Cert.KernelIdeal Cert.KernelIdeal.Gen

open Idealize.ShloMosaic
open Idealize.ShloMosaic.TcCoe
open Idealize.SL Idealize.SL.Sem

variable {F : FTy → Type} [FloatOps F]

variable (m : (ℓ : Loc nD τ sig) → Buf (Elt F) ℓ) (ρ : Dev nD → PrngReg)

/-- An argument's array is not written. -/
theorem finalA_in (c : Dev nD) (w : Fin cfg0.W) (hw : (cfg0.win w).isOut = false) :
    finalA m ρ c w = m ((cfg0.win w).arr.view.loc (c : Thread nD τ)) :=
  (dats (F := F) m ρ 0 c).arrAt_in w hw _

/-- The result's array is written whole, by the one point. -/
theorem finalA_out (c : Dev nD) : finalA m ρ c (5 : Fin 6) = outAt m c := by
  unfold finalA
  refine (dats m ρ 0 c).arrAt_eq_of_after_last (5 : Fin 6) t0_0 (by decide +kernel) _ fun j => ?_
  exact congrArg (outAt m c) (by blk_simp)

/-- The five arguments of `main` end as they were and every counter is at zero. -/
theorem run_args : θ_run defs (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) :=
  (θ_run defs _ _).mono (fun _ h => ⟨fun c =>
    ⟨(h.1 c (0 : Fin 6)).trans (finalA_in m ρ c 0 rfl), (h.1 c (1 : Fin 6)).trans (finalA_in m ρ c 1 rfl),
      (h.1 c (2 : Fin 6)).trans (finalA_in m ρ c 2 rfl), (h.1 c (3 : Fin 6)).trans (finalA_in m ρ c 3 rfl),
      (h.1 c (4 : Fin 6)).trans (finalA_in m ρ c 4 rfl)⟩, h.2⟩) (run_main m ρ)

/-- The two prints of the program have one table of bodies. -/
theorem bodies_eq : Cert.Kernel.defs₀ (F := Bits) = Cert.KernelIdeal.defs₀ (F := Bits) := by
  unfold Cert.Kernel.defs₀ Cert.KernelIdeal.defs₀
  refine congrArg Defs.onTc ?_
  funext l x
  match l, x with
  | ⟨0, _⟩, (t, s) => rfl
  | ⟨_ + 1, h⟩, _ => exact absurd h (Nat.not_lt.2 (Nat.le_add_left _ _))
theorem defs_eq : Cert.Kernel.defs (F := Bits) = Cert.KernelIdeal.defs (F := Bits) :=
  congrArg (Pipeline.defs Cert.Kernel.pcfgs) bodies_eq

theorem frame_kernel : Cert.quiescent_Kernel := by
  intro m ρ _
  rw [defs_eq]
  exact run_args (F := Bits) m ρ

theorem frame_ideal : Cert.quiescent_KernelIdeal := fun m ρ _ => run_args (F := Ideal) m ρ

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Exchange

end
-- ==== Proof.Soft.lean ====
/-
# 01_k — the soft maximum over extended reals

A weighted mean with the weights `exp (s j)`, computed at once, is what a pass over the scores in blocks leaves that carries a running
maximum, the sum of the weights below it and the weighted sum below it.  The scores are real; the values are any extended reals.
-/
module

public import Idealize.ShloMosaic.PureOps.Ideal
public import Mathlib.Data.EReal.Inv
public import Mathlib.Algebra.BigOperators.Fin
public import Mathlib.Algebra.BigOperators.Group.Finset.Basic

@[expose] public section

noncomputable section

namespace Cert.Attend

open Idealize.ShloMosaic

/-- The mean of `v` under the weights `exp (s j)`. -/
def soft {n : ℕ} (s v : Fin n → EReal) : EReal :=
  Ideal.div (∑ j, Ideal.exp (s j) * v j) (∑ j, Ideal.exp (s j))

/-- One block of the pass: the running maximum, the sum of the weights and the weighted sum, each brought to the new maximum. -/
def block (s v : Fin 1024 → EReal) (z : EReal × EReal × EReal) : EReal × EReal × EReal :=
  (max z.1 (Finset.univ.fold max ⊥ s),
    z.2.1 * Ideal.exp (z.1 - max z.1 (Finset.univ.fold max ⊥ s)) + ∑ j, Ideal.exp (s j - max z.1 (Finset.univ.fold max ⊥ s)),
    z.2.2 * Ideal.exp (z.1 - max z.1 (Finset.univ.fold max ⊥ s)) + ∑ j, v j * Ideal.exp (s j - max z.1 (Finset.univ.fold max ⊥ s)))

theorem exp_real (r : ℝ) : Ideal.exp (r : EReal) = ((Real.exp r : ℝ) : EReal) := rfl
theorem exp_bot : Ideal.exp ⊥ = 0 := rfl

theorem coe_sum {ι : Type} (S : Finset ι) (f : ι → ℝ) : ((∑ j ∈ S, f j : ℝ) : EReal) = ∑ j ∈ S, (f j : EReal) := by
  classical
  induction S using Finset.induction_on with
  | empty => simp
  | insert a S ha ih => rw [Finset.sum_insert ha, Finset.sum_insert ha, EReal.coe_add, ih]

/-- A nonnegative real factor goes into a sum of any extended reals. -/
theorem mul_sum {ι : Type} (S : Finset ι) (e : ℝ) (he : 0 ≤ e) (f : ι → EReal) :
    (e : EReal) * ∑ j ∈ S, f j = ∑ j ∈ S, (e : EReal) * f j := by
  classical
  induction S using Finset.induction_on with
  | empty => simp
  | insert a S ha ih =>
    rw [Finset.sum_insert ha, Finset.sum_insert ha,
      EReal.left_distrib_of_nonneg_of_ne_top (EReal.coe_nonneg.2 he) (EReal.coe_ne_top _), ih]

/-- The greatest of finitely many real scores is real. -/
theorem fold_max_real (r : Fin 1024 → ℝ) : ∃ M : ℝ, Finset.univ.fold max ⊥ (fun j => (r j : EReal)) = (M : EReal) := by
  obtain ⟨i, _, hi⟩ := Finset.exists_mem_eq_sup (Finset.univ : Finset (Fin 1024)) ⟨0, Finset.mem_univ _⟩ fun j => (r j : EReal)
  exact ⟨r i, hi⟩

/-- What the pass has computed after blocks whose weights sum to `L` and whose weighted values sum to `O`. -/
def Holds (L O : EReal) (z : EReal × EReal × EReal) : Prop :=
  (z = (⊥, 0, 0) ∧ L = 0 ∧ O = 0) ∨ ∃ M : ℝ, z = ((M : EReal), ((Real.exp (-M) : ℝ) : EReal) * L, ((Real.exp (-M) : ℝ) : EReal) * O)

theorem shift (a M : ℝ) : Ideal.exp ((a : EReal) - (M : EReal)) = ((Real.exp (-M) : ℝ) : EReal) * ((Real.exp a : ℝ) : EReal) := by
  rw [← EReal.coe_sub, exp_real, ← EReal.coe_mul, ← Real.exp_add]
  congr 2; ring

theorem sum_shift (r : Fin 1024 → ℝ) (M : ℝ) :
    ∑ j, Ideal.exp ((r j : EReal) - (M : EReal)) = ((Real.exp (-M) : ℝ) : EReal) * ∑ j, Ideal.exp (r j : EReal) := by
  rw [mul_sum _ _ (Real.exp_nonneg _)]
  exact Finset.sum_congr rfl fun j _ => shift _ _
theorem sum_shift_mul (r : Fin 1024 → ℝ) (v : Fin 1024 → EReal) (M : ℝ) :
    ∑ j, v j * Ideal.exp ((r j : EReal) - (M : EReal)) = ((Real.exp (-M) : ℝ) : EReal) * ∑ j, Ideal.exp (r j : EReal) * v j := by
  rw [mul_sum _ _ (Real.exp_nonneg _)]
  exact Finset.sum_congr rfl fun j _ => by rw [shift, exp_real, mul_comm, mul_assoc]

/-- Bringing a sum from one maximum to the next. -/
theorem carry (M M' : ℝ) (L : EReal) :
    ((Real.exp (-M) : ℝ) : EReal) * L * Ideal.exp ((M : EReal) - (M' : EReal)) = ((Real.exp (-M') : ℝ) : EReal) * L := by
  rw [shift, mul_comm _ L, mul_assoc, ← EReal.coe_mul, ← EReal.coe_mul, ← Real.exp_add, ← Real.exp_add, mul_comm]
  congr 3; ring

theorem Holds.block {L O : EReal} {z : EReal × EReal × EReal} (h : Holds L O z) (r : Fin 1024 → ℝ) (v : Fin 1024 → EReal) :
    Holds (L + ∑ j, Ideal.exp (r j : EReal)) (O + ∑ j, Ideal.exp (r j : EReal) * v j) (block (fun j => (r j : EReal)) v z) := by
  obtain ⟨B, hB⟩ := fold_max_real r
  right
  unfold Attend.block
  rcases h with ⟨rfl, rfl, rfl⟩ | ⟨M, rfl⟩
  · refine ⟨B, ?_⟩
    dsimp only
    rw [hB, max_eq_right bot_le, EReal.bot_sub, exp_bot, sum_shift, sum_shift_mul, mul_zero, zero_add, zero_add, zero_add, zero_add]
  · refine ⟨max M B, ?_⟩
    have hM : max (M : EReal) (B : EReal) = ((max M B : ℝ) : EReal) := (EReal.coe_strictMono.monotone.map_max (a := M) (b := B)).symm
    dsimp only
    rw [hB, hM, carry, carry, sum_shift, sum_shift_mul,
      EReal.left_distrib_of_nonneg_of_ne_top (EReal.coe_nonneg.2 (Real.exp_nonneg _)) (EReal.coe_ne_top _),
      EReal.left_distrib_of_nonneg_of_ne_top (EReal.coe_nonneg.2 (Real.exp_nonneg _)) (EReal.coe_ne_top _)]

/-- A positive real factor drops out of a quotient by a positive real. -/
theorem div_scale (e l : ℝ) (he : 0 < e) (hl : 0 < l) (O : EReal) :
    Ideal.div ((e : EReal) * O) ((e : EReal) * (l : EReal)) = Ideal.div O (l : EReal) := by
  have h1 : (e : EReal) * (l : EReal) ≠ 0 := by
    rw [← EReal.coe_mul]; exact EReal.coe_ne_zero.2 (mul_pos he hl).ne'
  have h2 : (l : EReal) ≠ 0 := EReal.coe_ne_zero.2 hl.ne'
  unfold Ideal.div
  rw [if_neg h1, if_neg h2, ← EReal.coe_mul, ← EReal.coe_inv, ← EReal.coe_inv, mul_comm (e : EReal) O, mul_assoc, ← EReal.coe_mul]
  congr 2
  field_simp

theorem sum_exp_pos {n : ℕ} [NeZero n] (r : Fin n → ℝ) : ∃ l : ℝ, 0 < l ∧ ∑ j, Ideal.exp (r j : EReal) = (l : EReal) :=
  ⟨∑ j, Real.exp (r j), Finset.sum_pos (fun j _ => Real.exp_pos _) ⟨0, Finset.mem_univ _⟩, (coe_sum _ _).symm⟩

/-- The position `j` of block `t` among the 4096 scores. -/
abbrev at4 (t : Fin 4) (j : Fin 1024) : Fin 4096 := ⟨1024 * t.val + j.val, by omega⟩

theorem sum_at4 (f : Fin 4096 → EReal) : ∑ j, f j = ∑ t : Fin 4, ∑ j : Fin 1024, f (at4 t j) := by
  rw [← Fintype.sum_prod_type' (f := fun t j => f (at4 t j)), ← Equiv.sum_comp (finProdFinEquiv (m := 4) (n := 1024))]
  refine Finset.sum_congr rfl fun x _ => congrArg f (Fin.ext ?_)
  show x.2.val + 1024 * x.1.val = 1024 * x.1.val + x.2.val
  omega

/-- The pass over the four blocks of 1024 scores, and the quotient at its end. -/
theorem pass_eq_soft (r : Fin 4096 → ℝ) (v : Fin 4096 → EReal) :
    let s := fun (t : Fin 4) (j : Fin 1024) => ((r (at4 t j) : ℝ) : EReal)
    let w := fun (t : Fin 4) (j : Fin 1024) => v (at4 t j)
    let z := block (s 3) (w 3) (block (s 2) (w 2) (block (s 1) (w 1) (block (s 0) (w 0) (⊥, 0, 0))))
    Ideal.div z.2.2 z.2.1 = soft (fun j => (r j : EReal)) v := by
  intro s w z
  have h0 : Holds 0 0 (⊥, 0, 0) := .inl ⟨rfl, rfl, rfl⟩
  have h4 := (((h0.block (fun j => r (at4 0 j)) (w 0)).block (fun j => r (at4 1 j)) (w 1)).block (fun j => r (at4 2 j)) (w 2)).block
    (fun j => r (at4 3 j)) (w 3)
  have hL : ∑ j, Ideal.exp (r j : EReal) = 0 + ∑ j, Ideal.exp (r (at4 0 j) : EReal) + ∑ j, Ideal.exp (r (at4 1 j) : EReal)
      + ∑ j, Ideal.exp (r (at4 2 j) : EReal) + ∑ j, Ideal.exp (r (at4 3 j) : EReal) := by
    rw [sum_at4 fun j => Ideal.exp (r j : EReal), Fin.sum_univ_four, zero_add]
  have hO : ∑ j, Ideal.exp (r j : EReal) * v j = 0 + ∑ j, Ideal.exp (r (at4 0 j) : EReal) * w 0 j + ∑ j, Ideal.exp (r (at4 1 j) : EReal) * w 1 j
      + ∑ j, Ideal.exp (r (at4 2 j) : EReal) * w 2 j + ∑ j, Ideal.exp (r (at4 3 j) : EReal) * w 3 j := by
    rw [sum_at4 fun j => Ideal.exp (r j : EReal) * v j, Fin.sum_univ_four, zero_add]
  rw [← hL, ← hO] at h4
  obtain ⟨l, hl, hlE⟩ := sum_exp_pos r
  unfold soft
  rcases h4 with ⟨_, h, _⟩ | ⟨M, hz⟩
  · rw [hlE] at h; exact absurd (EReal.coe_eq_zero.1 h) hl.ne'
  · rw [show z = _ from hz]
    dsimp only
    rw [hlE, div_scale _ _ (Real.exp_pos _) hl]

end Cert.Attend

end
-- ==== Proof.Heads.lean ====
/-
# 01_k — the heads at an index

One head of the kernel, read at an index over extended reals: a mean of the values under the weights `exp` of the scores.
-/
module

public import proofs.«01_k».proof.Proof.Protocol
public import proofs.«01_k».proof.Proof.Soft
public import Idealize.ShloMosaic.Lib.Pointwise
public import Idealize.ShloMosaic.Lib.Pipeline.ValueKit

@[expose] public section

noncomputable section

namespace Cert.Exchange

open Cert.KernelIdeal Cert.KernelIdeal.Gen Cert.Attend

open Idealize.ShloMosaic
open Idealize.ShloMosaic.TcCoe

section
variable {F : FTy → Type} [FloatOps F]

/-- One head, from the columns of the queries at `o` and its own columns of the keys and of the values. -/
def headT (q : FVec F S256x1024 .f32) (o : ℕ) (ho : S256x1024.Slices ![0, o] S256x128) (k v : Vec F S4096x128 .bf16) : FVec F S256x128 .f32 :=
  divf
    (matmul dot_S256x4096_S4096x128_S256x128_1_0_0_1_n_n none
      (truncf .bf16 (exp (matmul dot_S256x128_S4096x128_S256x4096_1_1_0_0_n_n none
        (truncf .bf16 (mulf (extractStridedSlice S256x128 ![0, o] q ho) (broadcast S256x128 (Scalar.ofBits .f32 0x3DB504F3#32))) bitsLt_bf16_f32)
        (shapeCast S4096x128 k shapeCasts_S4096x128_S4096x128) (constant S256x4096 .f32 0x00000000#32))) bitsLt_bf16_f32)
      (shapeCast S4096x128 v shapeCasts_S4096x128_S4096x128) (constant S256x128 .f32 0x00000000#32))
    (broadcastTo S256x128 (shapeCast S256x1
      (multiReduction .add [1] S256 (exp (matmul dot_S256x128_S4096x128_S256x4096_1_1_0_0_n_n none
        (truncf .bf16 (mulf (extractStridedSlice S256x128 ![0, o] q ho) (broadcast S256x128 (Scalar.ofBits .f32 0x3DB504F3#32))) bitsLt_bf16_f32)
        (shapeCast S4096x128 k shapeCasts_S4096x128_S4096x128) (constant S256x4096 .f32 0x00000000#32))) 0x00000000#32
        reduces_S256x4096_S256 (.inl rfl) rfl) shapeCasts_S256_S256x1) broadcasts_S256x1_S256x128)

theorem pay2_eq (x w k v) : k0_pay2 (F := F) x w k v = headT (k0_pay1 x w) 0 slices_S256x1024_o0_0_S256x128 k v := rfl
theorem pay4_eq (x w k v) : k0_pay4 (F := F) (k0_pay3 x w) k v = headT (k0_pay1 x w) 128 slices_S256x1024_o0_128_S256x128 k v := rfl
theorem pay5_eq (q k v) : k0_pay5 (F := F) q k v = headT q 256 slices_S256x1024_o0_256_S256x128 k v := rfl
theorem pay8_eq (q k v) : k0_pay8 (F := F) (k0_pay6 q k) (k0_pay7 q k) v = headT q 384 slices_S256x1024_o0_384_S256x128 k v := rfl
theorem pay9_eq (q k v) : k0_pay9 (F := F) q k v = headT q 512 slices_S256x1024_o0_512_S256x128 k v := rfl
theorem pay10_eq (q k v) : k0_pay10 (F := F) q k v = headT q 640 slices_S256x1024_o0_640_S256x128 k v := rfl

/-- Eight heads side by side. -/
def sideBySide (h0 h1 h2 h3 h4 h5 h6 h7 : FVec F S256x128 .f32) : FVec F S256x1024 .bf16 :=
  truncf .bf16 (concatenate S256x1024 1 [⟨S256x128, h0⟩, ⟨S256x128, h1⟩, ⟨S256x128, h2⟩, ⟨S256x128, h3⟩, ⟨S256x128, h4⟩, ⟨S256x128, h5⟩, ⟨S256x128, h6⟩, ⟨S256x128, h7⟩]
    concatenates_S256x128_S256x128_S256x128_S256x128_S256x128_S256x128_S256x128_S256x128_S256x1024_d1) bitsLt_bf16_f32

theorem pay12_eq (q h0 h1 h2 h3 h4 h5 k6 v6 k7 v7) :
    k0_pay12 (F := F) q h0 h1 h2 h3 h4 h5 (k0_pay11 q) k6 v6 k7 v7
      = sideBySide h0 h1 h2 h3 h4 h5 (headT q 768 slices_S256x1024_o0_768_S256x128 k6 v6) (headT q 896 slices_S256x1024_o0_896_S256x128 k7 v7) := rfl
end

/-- The factor of the scores. -/
abbrev sc : EReal := Ideal.ofBits .f32 0x3DB504F3#32

theorem headT_apply (q : FVec Ideal S256x1024 .f32) (o : ℕ) (ho : S256x1024.Slices ![0, o] S256x128) (hb : o + 128 ≤ 1024)
    (k v : Vec Ideal S4096x128 .bf16) (i : Fin 256) (d : Fin 128) :
    headT q o ho k v (ix2 i d) = soft (fun j : Fin 4096 => ∑ e : Fin 128, (q (ix2 i (⟨o + e.val, by omega⟩ : Fin 1024)) * sc) * k (ix2 j e))
      (fun j => v (ix2 j d)) := by
  unfold soft sc
  pointwise [headT]
  done

variable (m : (ℓ : Loc nD τ sig) → Buf (Elt Ideal) ℓ)

/-- The five arguments on device `c`, as arrays. -/
abbrev argX (c : Dev nD) : S256x1024.Idx → EReal := m ((c : Thread nD τ).loc main_arg0)
abbrev argQ (c : Dev nD) : S1024x1024.Idx → EReal := m ((c : Thread nD τ).loc main_arg1)
abbrev argO (c : Dev nD) : S1024x1024.Idx → EReal := m ((c : Thread nD τ).loc main_arg2)
abbrev argK (c : Dev nD) : S4096x1024.Idx → EReal := m ((c : Thread nD τ).loc main_arg3)
abbrev argV (c : Dev nD) : S4096x1024.Idx → EReal := m ((c : Thread nD τ).loc main_arg4)

theorem stg0_eq (c : Dev nD) : stg0 m c = argX m c :=
  Memref.read_access_unit_zero (Elt Ideal) main_arg0 (funext fun a => by fin_cases a <;> rfl) (fun a => by fin_cases a <;> decide) (m ((c : Thread nD τ).loc main_arg0))
theorem stg1_eq (c : Dev nD) : stg1 m c = argQ m c :=
  Memref.read_access_unit_zero (Elt Ideal) main_arg1 (funext fun a => by fin_cases a <;> rfl) (fun a => by fin_cases a <;> decide) (m ((c : Thread nD τ).loc main_arg1))
theorem stg2_eq (c : Dev nD) : stg2 m c = argO m c :=
  Memref.read_access_unit_zero (Elt Ideal) main_arg2 (funext fun a => by fin_cases a <;> rfl) (fun a => by fin_cases a <;> decide) (m ((c : Thread nD τ).loc main_arg2))
theorem stg3_eq (c : Dev nD) : stg3 m c = argK m c :=
  Memref.read_access_unit_zero (Elt Ideal) main_arg3 (funext fun a => by fin_cases a <;> rfl) (fun a => by fin_cases a <;> decide) (m ((c : Thread nD τ).loc main_arg3))
theorem stg4_eq (c : Dev nD) : stg4 m c = argV m c :=
  Memref.read_access_unit_zero (Elt Ideal) main_arg4 (funext fun a => by fin_cases a <;> rfl) (fun a => by fin_cases a <;> decide) (m ((c : Thread nD τ).loc main_arg4))

theorem xv_eq (c : Dev nD) : xv m c = argX m c := by
  unfold xv; rw [stg0_eq]
  funext y
  exact congrArg (argX m c) (funext fun a => match a with
    | ⟨0, _⟩ => Fin.ext (show 0 + 1 * (y 0).val = (y 0).val by omega)
    | ⟨1, _⟩ => Fin.ext (show 0 + 1 * (y 1).val = (y 1).val by omega))
theorem wqv_eq (c : Dev nD) : wqv m c = argQ m c := by
  unfold wqv; rw [stg1_eq]
  funext y
  exact congrArg (argQ m c) (funext fun a => match a with
    | ⟨0, _⟩ => Fin.ext (show 0 + 1 * (y 0).val = (y 0).val by omega)
    | ⟨1, _⟩ => Fin.ext (show 0 + 1 * (y 1).val = (y 1).val by omega))
theorem kv_apply (c : Dev nD) (o : ℕ) (h) (ho : o + 128 ≤ 1024) (j : Fin 4096) (d : Fin 128) :
    kv m c o h (ix2 j d) = argK m c (ix2 j (⟨o + d.val, by omega⟩ : Fin 1024)) := by
  unfold kv; rw [stg3_eq]
  exact congrArg (argK m c) (funext fun a => match a with
    | ⟨0, _⟩ => Fin.ext (show 0 + 1 * j.val = j.val by omega)
    | ⟨1, _⟩ => Fin.ext (show o + 1 * d.val = o + d.val by omega))
theorem vv_apply (c : Dev nD) (o : ℕ) (h) (ho : o + 128 ≤ 1024) (j : Fin 4096) (d : Fin 128) :
    vv m c o h (ix2 j d) = argV m c (ix2 j (⟨o + d.val, by omega⟩ : Fin 1024)) := by
  unfold vv; rw [stg4_eq]
  exact congrArg (argV m c) (funext fun a => match a with
    | ⟨0, _⟩ => Fin.ext (show 0 + 1 * j.val = j.val by omega)
    | ⟨1, _⟩ => Fin.ext (show o + 1 * d.val = o + d.val by omega))
theorem wov_apply (c k : Dev nD) (a : Fin 1024) (d : Fin 128) :
    wov m c k (ix2 a d) = argO m c (ix2 a (⟨128 * k.val + d.val, by have : k.val < 8 := k.isLt; omega⟩ : Fin 1024)) := by
  unfold wov; rw [stg2_eq]
  exact congrArg (argO m c) (funext fun x => match x with
    | ⟨0, _⟩ => Fin.ext (show 0 + 1 * a.val = a.val by omega)
    | ⟨1, _⟩ => Fin.ext (show 128 * k.val + 1 * d.val = 128 * k.val + d.val by omega))

/-- The queries of device `c`, before the factor. -/
def query (c : Dev nD) (i : Fin 256) (e : Fin 1024) : EReal := ∑ a : Fin 1024, argX m c (ix2 i a) * argQ m c (ix2 a e)

theorem pay1_apply (c : Dev nD) (i : Fin 256) (e : Fin 1024) : k0_pay1 (xv m c) (wqv m c) (ix2 i e) = query m c i e := by
  rw [xv_eq, wqv_eq]
  unfold query
  pointwise [k0_pay1]

/-- Head `h` of device `c`. -/
def headAt (c : Dev nD) (h : Fin 8) (i : Fin 256) (d : Fin 128) : EReal :=
  soft (fun j : Fin 4096 => ∑ e : Fin 128, (query m c i (⟨128 * h.val + e.val, by omega⟩ : Fin 1024) * sc) * argK m c (ix2 j (⟨128 * h.val + e.val, by omega⟩ : Fin 1024)))
    (fun j => argV m c (ix2 j (⟨128 * h.val + d.val, by omega⟩ : Fin 1024)))

/-- The head from the columns at `128 h` is head `h`. -/
theorem headT_eq (c : Dev nD) (h : Fin 8) (o : ℕ) (hoh : o = 128 * h.val) (ho : S256x1024.Slices ![0, o] S256x128) (hk hv) (i : Fin 256) (d : Fin 128) :
    headT (k0_pay1 (xv m c) (wqv m c)) o ho (kv m c o hk) (vv m c o hv) (ix2 i d) = headAt m c h i d := by
  subst hoh
  rw [headT_apply _ _ _ (by omega)]
  unfold headAt
  simp only [pay1_apply, kv_apply m c _ hk (by omega), vv_apply m c _ hv (by omega)]

/-- Column `128 h + d` of eight heads side by side is column `d` of head `h`. -/
theorem sideBySide_apply (f : Fin 8 → FVec Ideal S256x128 .f32) (h : Fin 8) (i : Fin 256) (d : Fin 128) :
    sideBySide (f 0) (f 1) (f 2) (f 3) (f 4) (f 5) (f 6) (f 7) (ix2 i (⟨128 * h.val + d.val, by omega⟩ : Fin 1024)) = f h (ix2 i d) := by
  pointwise [sideBySide]
  obtain ⟨h, hh⟩ := h
  interval_cases h
  all_goals
    dsimp only
    iterate 7 try refine (dif_neg (by omega)).trans ?_
    try refine (dif_pos (by omega)).trans ?_
    refine congrArg (fun b : Fin 128 => f _ (ix2 i b)) (Fin.ext ?_)
    dsimp only
    omega

theorem heads_apply (c : Dev nD) (h : Fin 8) (i : Fin 256) (d : Fin 128) :
    heads m c (ix2 i (⟨128 * h.val + d.val, by omega⟩ : Fin 1024)) = headAt m c h i d := by
  unfold heads
  rw [pay2_eq, pay4_eq, pay5_eq, pay8_eq, pay9_eq, pay10_eq, pay12_eq]
  refine (sideBySide_apply ![_, _, _, _, _, _, _, _] h i d).trans ?_
  match h with
  | 0 => exact headT_eq m c 0 _ rfl _ _ _ i d
  | 1 => exact headT_eq m c 1 _ rfl _ _ _ i d
  | 2 => exact headT_eq m c 2 _ rfl _ _ _ i d
  | 3 => exact headT_eq m c 3 _ rfl _ _ _ i d
  | 4 => exact headT_eq m c 4 _ rfl _ _ _ i d
  | 5 => exact headT_eq m c 5 _ rfl _ _ _ i d
  | 6 => exact headT_eq m c 6 _ rfl _ _ _ i d
  | 7 => exact headT_eq m c 7 _ rfl _ _ _ i d

end Cert.Exchange

end
-- ==== Proof.Result.lean ====
/-
# 01_k — the kernel's result at an index

Every device's copy of the result, read at an index: the sum over the devices of the products of their heads with their rows of the output projection.
-/
module

public import proofs.«01_k».proof.Proof.Heads

@[expose] public section

noncomputable section

namespace Cert.Exchange

open Cert.KernelIdeal Cert.KernelIdeal.Gen Cert.Attend

open Idealize.ShloMosaic
open Idealize.ShloMosaic.TcCoe

variable (m : (ℓ : Loc nD τ sig) → Buf (Elt Ideal) ℓ)

/-- Device `c`'s share of column `n` of block `k` of row `i`. -/
def share (c k : Dev nD) (i : Fin 256) (n : Fin 128) : EReal :=
  ∑ a : Fin 1024, heads m c (ix2 i a) * argO m c (ix2 a (⟨128 * k.val + n.val, by have : k.val < 8 := k.isLt; omega⟩ : Fin 1024))

theorem pay23_apply (a : FVec Ideal S256x1024 .bf16) (b : Vec Ideal S1024x128 .bf16) (i : Fin 256) (n : Fin 128) :
    k0_pay23 a b (ix2 i n) = ∑ x : Fin 1024, a (ix2 i x) * b (ix2 x n) := by
  pointwise [k0_pay23]

theorem pay15_apply (a : FVec Ideal S256x1024 .bf16) (b : Vec Ideal S1024x128 .bf16) (i : Fin 256) (n : Fin 128) :
    k0_pay15 a b (ix3 (0 : Fin 1) i n) = ∑ x : Fin 1024, a (ix2 i x) * b (ix2 x n) := by
  pointwise [k0_pay15]

theorem own_apply (c k : Dev nD) (i : Fin 256) (n : Fin 128) : k0_pay23 (heads m c) (wov m c k) (ix2 i n) = share m c k i n :=
  (pay23_apply _ _ i n).trans (Finset.sum_congr rfl fun x _ => congrArg (heads m c (ix2 i x) * ·) (wov_apply m c k x n))

theorem msg_apply (c : Dev nD) (j : Fin 7) (i : Fin 256) (n : Fin 128) : msg m c j (ix3 (0 : Fin 1) i n) = share m c (nxt j c) i n :=
  (pay15_apply _ _ i n).trans (Finset.sum_congr rfl fun x _ => congrArg (heads m c (ix2 i x) * ·) (wov_apply m c (nxt j c) x n))

theorem got_apply (c : Dev nD) (j : Fin 7) (i : Fin 256) (n : Fin 128) : got m c j (ix3 (0 : Fin 1) i n) = share m (prv j c) c i n := by
  unfold got; rw [msg_apply, nxt_prv]

/-- The devices are one of them and the seven before it. -/
theorem sum_devices (f : Dev nD → EReal) (c : Dev nD) :
    f c + f (prv 0 c) + f (prv 1 c) + f (prv 2 c) + f (prv 3 c) + f (prv 4 c) + f (prv 5 c) + f (prv 6 c) = ∑ d : Fin 8, f d := by
  have h : (Finset.univ : Finset (Fin 8)) = insert c (Finset.univ.image fun j => prv j c) := by revert c; decide
  rw [h, Finset.sum_insert (by revert c; decide), Finset.sum_image (by revert c; decide), Fin.sum_univ_seven]
  simp only [add_assoc]

/-- A block and seven landings, added in turn. -/
theorem added_apply (a : FVec Ideal S256x128 .f32) (g : Fin 7 → FVec Ideal S1x256x128 .bf16) (i : Fin 256) (n : Fin 128) :
    k0_pay26 (k0_pay25 (k0_pay24 a (g 0) (g 1) (g 2)) (g 3) (g 4)) (g 5) (g 6) (ix2 i n)
      = a (ix2 i n) + g 0 (ix3 0 i n) + g 1 (ix3 0 i n) + g 2 (ix3 0 i n) + g 3 (ix3 0 i n) + g 4 (ix3 0 i n) + g 5 (ix3 0 i n) + g 6 (ix3 0 i n) := by
  pointwise [k0_pay26, k0_pay25, k0_pay24]

theorem red_apply (c : Dev nD) (i : Fin 256) (n : Fin 128) : red m c (ix2 i n) = ∑ d : Fin 8, share m d c i n := by
  rw [← sum_devices (fun d => share m d c i n) c]
  refine (added_apply _ (got m c) i n).trans ?_
  simp only [got_apply, own_apply]

theorem pay28_lead (X : FVec Ideal S256x128 .bf16) (y : S256x128.Idx) : (k0_pay28 (lead (F := Ideal) X) y : EReal) = X y :=
  congrArg X (Equiv.symm_apply_apply (Shape.reshapeEquiv squeezes_S1x256x128_S256x128.numel_eq) y)

theorem copy_apply (c : Dev nD) (y : S256x128.Idx) : k0_pay28 (lead (redb m c)) y = red m c y := by
  rw [pay28_lead]
  unfold redb red
  generalize part m c = a; generalize got m c 5 = b; generalize got m c 6 = d
  idx_vars y
  pointwise [k0_pay27, k0_pay26]

theorem blockOf_apply (c k : Dev nD) (i : Fin 256) (n : Fin 128) : blockOf m c k (ix2 i n) = ∑ d : Fin 8, share m d k i n := by
  rw [← red_apply]
  unfold blockOf
  split
  · next h => rw [h]
  · exact copy_apply m k _

/-- The result on device `c`, at column `n` of block `k` of row `i`: the same on every device. -/
theorem outAt_apply (c k : Dev nD) (i : Fin 256) (n : Fin 128) :
    outAt m c (ix2 i (⟨128 * k.val + n.val, by have : k.val < 8 := k.isLt; omega⟩ : Fin 1024)) = ∑ d : Fin 8, share m d k i n := by
  rw [← blockOf_apply m c k i n]
  have hk : k.val < 8 := k.isLt
  unfold outAt
  have e : ∀ (k' : Dev nD) (y : S256x128.Idx), k' = k → y = ix2 i n → blockOf m c k' y = blockOf m c k (ix2 i n) := by
    rintro _ _ rfl rfl; rfl
  refine e _ _ (Fin.ext (show (128 * k.val + n.val) / 128 = k.val by omega)) (funext fun a => match a with
    | ⟨0, _⟩ => rfl
    | ⟨1, _⟩ => Fin.ext (show (128 * k.val + n.val) % 128 = n.val by omega))

end Cert.Exchange

end
-- ==== Proof.Plain.lean ====
/-
# 01_k — the reference at an index

The reference's result composed of one step per quarter of the keys, and each step read at an index over extended reals.
-/
module

public import proofs.«01_k».proof.Proof.Gen.ReferenceIdeal.Run
public import proofs.«01_k».proof.Proof.Soft
public import Idealize.ShloMosaic.Lib.Pointwise

@[expose] public section

noncomputable section

namespace Cert.Plain

open Cert.ReferenceIdeal Cert.ReferenceIdeal.Gen Cert.Attend

open Idealize.ShloMosaic
open Idealize.ShloMosaic.TcCoe

section
variable {F : FTy → Type} [FloatOps F]

/-- The queries by head; -/
def queries (x : FVec F S256x1024 .bf16) (wq : FVec F S1024x8192 .bf16) : FVec F S1x256x64x128 .f32 :=
  shapeCast _ (extf .f32 (truncf .bf16 (Host.dotGeneral dot_S1x256x1024_S1024x8192_S1x256x8192_2_0_01_1_n_n none
    (extf .f32 (shapeCast _ x shapeCasts_S256x1024_S1x256x1024) bitsLt_bf16_f32) (extf .f32 wq bitsLt_bf16_f32)) bitsLt_bf16_f32) bitsLt_bf16_f32)
    shapeCasts_S1x256x8192_S1x256x64x128

/-- the keys or the values by head; -/
def byHead (k : FVec F S4096x8192 .bf16) : FVec F S1x4096x64x128 .f32 :=
  extf .f32 (shapeCast _ k shapeCasts_S4096x8192_S1x4096x64x128) bitsLt_bf16_f32

/-- a quarter of them; -/
def quarter (o : ℕ) (h : S1x4096x64x128.Slices ![0, o, 0, 0] S1x1024x64x128) (k : FVec F S1x4096x64x128 .f32) : FVec F S1x1024x64x128 .f32 :=
  extractStridedSlice S1x1024x64x128 ![0, o, 0, 0] k h

/-- the scores of a quarter; -/
def scores (q : FVec F S1x256x64x128 .f32) (k : FVec F S1x1024x64x128 .f32) : FVec F S1x64x256x1024 .f32 :=
  mulf (extf .f32 (truncf .bf16 (Host.dotGeneral dot_S1x256x64x128_S1x1024x64x128_S1x64x256x1024_3_3_1_1_02_02 none q k) bitsLt_bf16_f32) bitsLt_bf16_f32)
    (broadcastInDim S1x64x256x1024 ![] bcast_S_S1x64x256x1024 (constant S_ .f32 0x3DB504F3#32))

/-- the maximum so far; -/
def maxT (s : FVec F S1x64x256x1024 .f32) (M : FVec F S1x64x256x1 .f32) : FVec F S1x64x256x1 .f32 :=
  maximumf M (broadcastInDim S1x64x256x1 ![0, 1, 2] bcast_S1x64x256_S1x64x256x1_0_1_2
    (Host.reduce FloatOps.maximumf s (constant S_ .f32 0xFF800000#32) reducesTo_S1x64x256x1024_S1x64x256_d3 h_S_))

/-- the weights of a quarter; -/
def weightT (s : FVec F S1x64x256x1024 .f32) (M' : FVec F S1x64x256x1 .f32) : FVec F S1x64x256x1024 .f32 :=
  Host.exp (subf s (broadcastInDim S1x64x256x1024 ![0, 1, 2, 3] bcast_S1x64x256x1_S1x64x256x1024_0_1_2_3 M'))

/-- the sum of the weights so far; -/
def sumT (s : FVec F S1x64x256x1024 .f32) (M L : FVec F S1x64x256x1 .f32) : FVec F S1x64x256x1 .f32 :=
  addf (mulf L (Host.exp (subf M (maxT s M)))) (broadcastInDim S1x64x256x1 ![0, 1, 2] bcast_S1x64x256_S1x64x256x1_0_1_2
    (Host.reduceAdd (weightT s (maxT s M)) (constant S_ .f32 0x00000000#32) reducesTo_S1x64x256x1024_S1x64x256_d3 h_S_))

/-- a value per row and head repeated over the columns of the head; -/
def spread (L : FVec F S1x64x256x1 .f32) : FVec F S1x256x64x128 .f32 :=
  broadcastInDim S1x256x64x128 ![0, 1, 2, 3] bcast_S1x256x64x1_S1x256x64x128_0_1_2_3 (transpose S1x256x64x1 [0, 2, 1, 3] L transposes_S1x64x256x1_S1x256x64x1_0_2_1_3)

/-- the weighted sum of the values so far. -/
def accT (s : FVec F S1x64x256x1024 .f32) (v : FVec F S1x1024x64x128 .f32) (M : FVec F S1x64x256x1 .f32) (O : FVec F S1x256x64x128 .f32) : FVec F S1x256x64x128 .f32 :=
  addf (mulf O (spread (Host.exp (subf M (maxT s M)))))
    (transpose S1x256x64x128 [0, 3, 1, 2] (Host.dotGeneral dot_S1x1024x64x128_S1x64x256x1024_S1x64x128x256_1_3_3_2_02_01 none v (weightT s (maxT s M)))
      transposes_S1x64x128x256_S1x256x64x128_0_3_1_2)

/-- One step over a quarter: the maximum, the sum and the weighted sum. -/
def step (s : FVec F S1x64x256x1024 .f32) (v : FVec F S1x1024x64x128 .f32) (z : FVec F S1x64x256x1 .f32 × FVec F S1x64x256x1 .f32 × FVec F S1x256x64x128 .f32) :
    FVec F S1x64x256x1 .f32 × FVec F S1x64x256x1 .f32 × FVec F S1x256x64x128 .f32 := (maxT s z.1, sumT s z.1 z.2.1, accT s v z.1 z.2.2)

/-- Before any step. -/
def start : FVec F S1x64x256x1 .f32 × FVec F S1x64x256x1 .f32 × FVec F S1x256x64x128 .f32 :=
  (broadcastInDim S1x64x256x1 ![] bcast_S_S1x64x256x1 (constant S_ .f32 0xFF800000#32),
   broadcastInDim S1x64x256x1 ![] bcast_S_S1x64x256x1 (constant S_ .f32 0x00000000#32),
   broadcastInDim S1x256x64x128 ![] bcast_S_S1x256x64x128 (constant S_ .f32 0x00000000#32))

/-- After the four steps. -/
def steps (q : FVec F S1x256x64x128 .f32) (k v : FVec F S1x4096x64x128 .f32) :=
  step (scores q (quarter 3072 slices_S1x4096x64x128_S1x1024x64x128_0_3072_0_0 k)) (quarter 3072 slices_S1x4096x64x128_S1x1024x64x128_0_3072_0_0 v)
  <| step (scores q (quarter 2048 slices_S1x4096x64x128_S1x1024x64x128_0_2048_0_0 k)) (quarter 2048 slices_S1x4096x64x128_S1x1024x64x128_0_2048_0_0 v)
  <| step (scores q (quarter 1024 slices_S1x4096x64x128_S1x1024x64x128_0_1024_0_0 k)) (quarter 1024 slices_S1x4096x64x128_S1x1024x64x128_0_1024_0_0 v)
  <| step (scores q (quarter 0 slices_S1x4096x64x128_S1x1024x64x128_0_0_0_0 k)) (quarter 0 slices_S1x4096x64x128_S1x1024x64x128_0_0_0_0 v) start

/-- The heads of the state, divided; -/
def ratio (z : FVec F S1x64x256x1 .f32 × FVec F S1x64x256x1 .f32 × FVec F S1x256x64x128 .f32) : FVec F S1x256x64x128 .f32 := Host.divf z.2.2 (spread z.2.1)

/-- and their projection. -/
def project (o : FVec F S1x256x64x128 .f32) (wo : FVec F S8192x1024 .bf16) : FVec F S256x1024 .f32 :=
  shapeCast _ (Host.dotGeneral dot_S1x256x8192_S8192x1024_S1x256x1024_2_0_01_1_n_n none (shapeCast _ o shapeCasts_S1x256x64x128_S1x256x8192)
    (extf .f32 wo bitsLt_bf16_f32)) shapeCasts_S1x256x1024_S256x1024

end

variable (m : (ℓ : Loc nD τ sig) → Buf (Elt Ideal) ℓ)

/-- The arguments, as arrays. -/
abbrev argX (c : Dev nD) : S256x1024.Idx → EReal := m ((c : Thread nD τ).loc main_arg0)
abbrev argQ (c : Dev nD) : S1024x8192.Idx → EReal := m ((c : Thread nD τ).loc main_arg1)
abbrev argO (c : Dev nD) : S8192x1024.Idx → EReal := m ((c : Thread nD τ).loc main_arg2)
abbrev argK (c : Dev nD) : S4096x8192.Idx → EReal := m ((c : Thread nD τ).loc main_arg3)
abbrev argV (c : Dev nD) : S4096x8192.Idx → EReal := m ((c : Thread nD τ).loc main_arg4)

theorem res_eq (c : Dev nD) : Value.res_main_v120 (F := Ideal) m c
    = project (F := Ideal) (ratio (steps (queries (F := Ideal) (argX m c) (argQ m c)) (byHead (F := Ideal) (argK m c)) (byHead (F := Ideal) (argV m c)))) (argO m c) := by
  unfold Value.res_main_v120
  rfl

theorem queries_apply (x : FVec Ideal S256x1024 .bf16) (wq : FVec Ideal S1024x8192 .bf16) (i : Fin 256) (h : Fin 64) (e : Fin 128) :
    queries x wq (ix4 (0 : Fin 1) i h e) = ∑ a : Fin 1024, x (ix2 i a) * wq (ix2 a (⟨h.val * 128 + e.val, by omega⟩ : Fin 8192)) := by
  pointwise [queries]

theorem byHead_apply (k : FVec Ideal S4096x8192 .bf16) (j : Fin 4096) (h : Fin 64) (e : Fin 128) :
    byHead k (ix4 (0 : Fin 1) j h e) = k (ix2 j (⟨h.val * 128 + e.val, by omega⟩ : Fin 8192)) := by
  pointwise [byHead]

theorem quarter_apply (o : ℕ) (ho) (hb : o + 1024 ≤ 4096) (k : FVec Ideal S1x4096x64x128 .f32) (j : Fin 1024) (h : Fin 64) (e : Fin 128) :
    quarter o ho k (ix4 (0 : Fin 1) j h e) = k (ix4 (0 : Fin 1) (⟨o + j.val, by omega⟩ : Fin 4096) h e) := by
  pointwise [quarter]

/-- The factor of the scores. -/
abbrev sc : EReal := Ideal.ofBits .f32 0x3DB504F3#32

theorem scores_apply (q : FVec Ideal S1x256x64x128 .f32) (k : FVec Ideal S1x1024x64x128 .f32) (h : Fin 64) (i : Fin 256) (j : Fin 1024) :
    scores q k (ix4 (0 : Fin 1) h i j) = (∑ e : Fin 128, q (ix4 (0 : Fin 1) i h e) * k (ix4 (0 : Fin 1) j h e)) * sc := by
  unfold sc
  pointwise [scores]

theorem spread_apply (L : FVec Ideal S1x64x256x1 .f32) (i : Fin 256) (h : Fin 64) (e : Fin 128) :
    spread L (ix4 (0 : Fin 1) i h e) = L (ix4 (0 : Fin 1) h i (0 : Fin 1)) := by
  pointwise [spread]

theorem neg_inf : Ideal.ofBits .f32 0xFF800000#32 = ⊥ := by
  simp [Ideal.ofBits, Ideal.ieee]

/-- A host's maximum along the last axis, from any initial element. -/
theorem top_apply (s : FVec Ideal S1x64x256x1024 .f32) (b : S_.Idx → Ideal .f32) (h : Fin 64) (i : Fin 256) :
    Host.reduce FloatOps.maximumf s b reducesTo_S1x64x256x1024_S1x64x256_d3 h_S_ (ix3 (0 : Fin 1) h i)
      = Finset.univ.fold (max : EReal → EReal → EReal) (b (Shape.Idx.first h_S_)) fun j : Fin 1024 => s (ix4 (0 : Fin 1) h i j) := by
  rw [Host.reduce_eq_fold, Shape.ReducesTo.fold_fiber_r4_a3]
  simp only [Ideal.maximumf_eq_max]
  rfl

theorem column_apply (t : FVec Ideal S1x64x256 .f32) (M : FVec Ideal S1x64x256x1 .f32) (h : Fin 64) (i : Fin 256) :
    maximumf M (broadcastInDim S1x64x256x1 ![0, 1, 2] bcast_S1x64x256_S1x64x256x1_0_1_2 t) (ix4 (0 : Fin 1) h i (0 : Fin 1))
      = max (M (ix4 (0 : Fin 1) h i (0 : Fin 1))) (t (ix3 (0 : Fin 1) h i)) := by
  pointwise

theorem maxT_apply (s : FVec Ideal S1x64x256x1024 .f32) (M : FVec Ideal S1x64x256x1 .f32) (h : Fin 64) (i : Fin 256) :
    maxT s M (ix4 (0 : Fin 1) h i (0 : Fin 1)) = max (M (ix4 (0 : Fin 1) h i (0 : Fin 1))) (Finset.univ.fold max ⊥ fun j : Fin 1024 => s (ix4 (0 : Fin 1) h i j)) := by
  unfold maxT
  rw [column_apply, top_apply, show (constant S_ .f32 0xFF800000#32 : FVec Ideal S_ .f32) (Shape.Idx.first h_S_) = ⊥ from neg_inf]

theorem weightT_apply (s : FVec Ideal S1x64x256x1024 .f32) (M : FVec Ideal S1x64x256x1 .f32) (h : Fin 64) (i : Fin 256) (j : Fin 1024) :
    weightT s M (ix4 (0 : Fin 1) h i j) = Ideal.exp (s (ix4 (0 : Fin 1) h i j) - M (ix4 (0 : Fin 1) h i (0 : Fin 1))) := by
  pointwise [weightT]

theorem sumT_apply (s : FVec Ideal S1x64x256x1024 .f32) (M L : FVec Ideal S1x64x256x1 .f32) (h : Fin 64) (i : Fin 256) :
    sumT s M L (ix4 (0 : Fin 1) h i (0 : Fin 1)) = L (ix4 (0 : Fin 1) h i (0 : Fin 1))
        * Ideal.exp (M (ix4 (0 : Fin 1) h i (0 : Fin 1)) - maxT s M (ix4 (0 : Fin 1) h i (0 : Fin 1)))
      + ∑ j : Fin 1024, weightT s (maxT s M) (ix4 (0 : Fin 1) h i j) := by
  unfold sumT
  generalize maxT s M = N
  generalize weightT s N = p
  pointwise []

theorem accT_apply (s : FVec Ideal S1x64x256x1024 .f32) (v : FVec Ideal S1x1024x64x128 .f32) (M : FVec Ideal S1x64x256x1 .f32) (O : FVec Ideal S1x256x64x128 .f32)
    (h : Fin 64) (i : Fin 256) (d : Fin 128) :
    accT s v M O (ix4 (0 : Fin 1) i h d) = O (ix4 (0 : Fin 1) i h d)
        * Ideal.exp (M (ix4 (0 : Fin 1) h i (0 : Fin 1)) - maxT s M (ix4 (0 : Fin 1) h i (0 : Fin 1)))
      + ∑ j : Fin 1024, v (ix4 (0 : Fin 1) j h d) * weightT s (maxT s M) (ix4 (0 : Fin 1) h i j) := by
  unfold accT
  generalize maxT s M = N
  generalize weightT s N = p
  pointwise [spread]

/-- The state of one row of one head, at one of its columns. -/
def see (h : Fin 64) (i : Fin 256) (d : Fin 128) (z : FVec Ideal S1x64x256x1 .f32 × FVec Ideal S1x64x256x1 .f32 × FVec Ideal S1x256x64x128 .f32) : EReal × EReal × EReal :=
  (z.1 (ix4 (0 : Fin 1) h i (0 : Fin 1)), z.2.1 (ix4 (0 : Fin 1) h i (0 : Fin 1)), z.2.2 (ix4 (0 : Fin 1) i h d))

theorem see_step (h : Fin 64) (i : Fin 256) (d : Fin 128) (s : FVec Ideal S1x64x256x1024 .f32) (v : FVec Ideal S1x1024x64x128 .f32)
    (z : FVec Ideal S1x64x256x1 .f32 × FVec Ideal S1x64x256x1 .f32 × FVec Ideal S1x256x64x128 .f32) :
    see h i d (step s v z) = block (fun j => s (ix4 (0 : Fin 1) h i j)) (fun j => v (ix4 (0 : Fin 1) j h d)) (see h i d z) := by
  unfold see step block
  simp only [sumT_apply, accT_apply, weightT_apply, maxT_apply]

theorem see_start (h : Fin 64) (i : Fin 256) (d : Fin 128) : see h i d (start (F := Ideal)) = (⊥, 0, 0) := by
  unfold see
  rw [← neg_inf, ← Ideal.ofBits_zero_f32]
  rfl

theorem project_apply (o : FVec Ideal S1x256x64x128 .f32) (wo : FVec Ideal S8192x1024 .bf16) (i : Fin 256) (n : Fin 1024) :
    project o wo (ix2 i n) = ∑ a : Fin 8192, o (ix4 (0 : Fin 1) i (⟨a.val / 128, by omega⟩ : Fin 64) (⟨a.val % 128, by omega⟩ : Fin 128)) * wo (ix2 a n) := by
  pointwise [project]

end Cert.Plain

end
-- ==== Proof.Meet.lean ====
/-
# 01_k — the two programs' results are one

Where each device's arrays are its blocks of the reference's and `x`, `Wq` and `K` are real, every head of the kernel is a head of the
reference, and the sum over the devices is the reference's projection.
-/
module

public import proofs.«01_k».proof.Proof.Result
public import proofs.«01_k».proof.Proof.Plain

@[expose] public section

noncomputable section

namespace Cert.Meet

open Cert.Attend

open Idealize.ShloMosaic
open Idealize.ShloMosaic.TcCoe

abbrev SX : Shape := ⟨2, ![256, 1024]⟩
abbrev SQ : Shape := ⟨2, ![1024, 8192]⟩
abbrev SO : Shape := ⟨2, ![8192, 1024]⟩
abbrev SK : Shape := ⟨2, ![4096, 8192]⟩

theorem factor_real : ∃ r : ℝ, Ideal.ofBits .f32 0x3DB504F3#32 = (r : EReal) := by
  simp [Ideal.ofBits, Ideal.ieee]
  exact ⟨_, (EReal.coe_mul _ _).symm⟩

/-- The factor of the scores, as a real number. -/
def factor : ℝ := factor_real.choose
theorem factor_eq : Ideal.ofBits .f32 0x3DB504F3#32 = (factor : EReal) := factor_real.choose_spec

/-- Column `e` of head `h`. -/
abbrev col (h : Fin 64) (e : Fin 128) : Fin 8192 := ⟨h.val * 128 + e.val, by omega⟩

section
variable (x : SX.Idx → ℝ) (q : SQ.Idx → ℝ) (k : SK.Idx → ℝ) (V : SK.Idx → EReal) (O : SO.Idx → EReal)

/-- The query of row `i` at a column; -/
def qry (i : Fin 256) (b : Fin 8192) : ℝ := ∑ a : Fin 1024, x (ix2 i a) * q (ix2 a b)

/-- the score of row `i` and key `j` in head `h`; -/
def score (h : Fin 64) (i : Fin 256) (j : Fin 4096) : ℝ := (∑ e : Fin 128, qry x q i (col h e) * k (ix2 j (col h e))) * factor

/-- row `i` of head `h`; -/
def head (h : Fin 64) (i : Fin 256) (d : Fin 128) : EReal := soft (fun j : Fin 4096 => (score x q k h i j : EReal)) fun j => V (ix2 j (col h d))

/-- and the result. -/
def result (i : Fin 256) (n : Fin 1024) : EReal :=
  ∑ b : Fin 8192, head x q k V (⟨b.val / 128, by omega⟩ : Fin 64) i (⟨b.val % 128, by omega⟩ : Fin 128) * O (ix2 b n)

/-! ## The reference -/

section
open Cert.ReferenceIdeal Cert.ReferenceIdeal.Gen Cert.Plain

variable {x q k} {X : SX.Idx → EReal} {Q : SQ.Idx → EReal} {K : SK.Idx → EReal}

theorem chunk_scores (hx : ∀ i, X i = (x i : EReal)) (hq : ∀ i, Q i = (q i : EReal)) (hk : ∀ i, K i = (k i : EReal))
    (t : Fin 4) (o : ℕ) (ho : o = 1024 * t.val) (hs) (h : Fin 64) (i : Fin 256) (j : Fin 1024) :
    scores (queries (F := Ideal) X Q) (quarter o hs (byHead (F := Ideal) K)) (ix4 (0 : Fin 1) h i j) = (score x q k h i (at4 t j) : EReal) := by
  subst ho
  rw [scores_apply]
  unfold Plain.sc
  simp only [queries_apply, quarter_apply _ hs (by omega), byHead_apply, hx, hq, hk, factor_eq, ← EReal.coe_mul, ← coe_sum]
  rfl

theorem chunk_values (t : Fin 4) (o : ℕ) (ho : o = 1024 * t.val) (hs) (h : Fin 64) (j : Fin 1024) (d : Fin 128) :
    quarter o hs (byHead (F := Ideal) V) (ix4 (0 : Fin 1) j h d) = V (ix2 (at4 t j) (col h d)) := by
  subst ho
  rw [quarter_apply _ hs (by omega), byHead_apply]

theorem reference_head (hx : ∀ i, X i = (x i : EReal)) (hq : ∀ i, Q i = (q i : EReal)) (hk : ∀ i, K i = (k i : EReal))
    (h : Fin 64) (i : Fin 256) (d : Fin 128) :
    ratio (steps (queries (F := Ideal) X Q) (byHead (F := Ideal) K) (byHead (F := Ideal) V)) (ix4 (0 : Fin 1) i h d) = head x q k V h i d := by
  have e : ∀ z : FVec Ideal S1x64x256x1 .f32 × FVec Ideal S1x64x256x1 .f32 × FVec Ideal S1x256x64x128 .f32,
      ratio z (ix4 (0 : Fin 1) i h d) = Ideal.div (see h i d z).2.2 (see h i d z).2.1 := fun z =>
    congrArg (Ideal.div (z.2.2 (ix4 (0 : Fin 1) i h d))) (spread_apply z.2.1 i h d)
  rw [e]
  unfold steps
  simp only [see_step, see_start, chunk_scores hx hq hk 0 0 rfl, chunk_scores hx hq hk 1 1024 rfl, chunk_scores hx hq hk 2 2048 rfl,
    chunk_scores hx hq hk 3 3072 rfl, chunk_values V 0 0 rfl, chunk_values V 1 1024 rfl, chunk_values V 2 2048 rfl, chunk_values V 3 3072 rfl]
  exact pass_eq_soft (fun j => score x q k h i j) fun j => V (ix2 j (col h d))

theorem reference_result (hx : ∀ i, X i = (x i : EReal)) (hq : ∀ i, Q i = (q i : EReal)) (hk : ∀ i, K i = (k i : EReal)) (i : Fin 256) (n : Fin 1024) :
    project (F := Ideal) (ratio (steps (queries (F := Ideal) X Q) (byHead (F := Ideal) K) (byHead (F := Ideal) V))) O (ix2 i n) = result x q k V O i n := by
  rw [project_apply]
  exact Finset.sum_congr rfl fun b _ => congrArg (· * O (ix2 b n)) (reference_head V hx hq hk _ i _)

end

/-! ## The kernel -/

section
open Cert.KernelIdeal Cert.KernelIdeal.Gen Cert.Exchange

variable {x q k V O}

/-- A device's column among all. -/
abbrev dcol (c : Fin 8) (e : Fin 1024) : Fin 8192 := ⟨c.val * 1024 + e.val, by omega⟩
/-- A device's head among all. -/
abbrev dhead (c h : Fin 8) : Fin 64 := ⟨c.val * 8 + h.val, by omega⟩

theorem dcol_head (c h : Fin 8) (e : Fin 128) (hb : 128 * h.val + e.val < 1024) : dcol c ⟨128 * h.val + e.val, hb⟩ = col (dhead c h) e :=
  Fin.ext (show c.val * 1024 + (128 * h.val + e.val) = (c.val * 8 + h.val) * 128 + e.val by omega)

/-- The devices' columns are all the columns. -/
theorem sum_dcol (f : Fin 8192 → EReal) : ∑ b, f b = ∑ c : Fin 8, ∑ a : Fin 1024, f (dcol c a) := by
  rw [← Fintype.sum_prod_type' (f := fun c a => f (dcol c a)), ← Equiv.sum_comp (finProdFinEquiv (m := 8) (n := 1024))]
  refine Finset.sum_congr rfl fun y _ => congrArg f (Fin.ext ?_)
  show y.2.val + 1024 * y.1.val = y.1.val * 1024 + y.2.val
  omega

variable (m : (ℓ : Loc nD τ sig) → Buf (Elt Ideal) ℓ)

/-- The devices' arrays are their blocks of the whole arrays. -/
structure Blocks (x : SX.Idx → ℝ) (q : SQ.Idx → ℝ) (k : SK.Idx → ℝ) (V : SK.Idx → EReal) (O : SO.Idx → EReal) : Prop where
  hx : ∀ (c : Dev nD) i, argX m c i = (x i : EReal)
  hq : ∀ (c : Dev nD) (a e : Fin 1024), argQ m c (ix2 a e) = (q (ix2 a (dcol c e)) : EReal)
  ho : ∀ (c : Dev nD) (a n : Fin 1024), argO m c (ix2 a n) = O (ix2 (dcol c a) n)
  hk : ∀ (c : Dev nD) (j : Fin 4096) (e : Fin 1024), argK m c (ix2 j e) = (k (ix2 j (dcol c e)) : EReal)
  hv : ∀ (c : Dev nD) (j : Fin 4096) (e : Fin 1024), argV m c (ix2 j e) = V (ix2 j (dcol c e))

variable {m} (B : Blocks m x q k V O)
include B

theorem query_real (c : Dev nD) (i : Fin 256) (e : Fin 1024) : query m c i e = (qry x q i (dcol c e) : EReal) := by
  unfold query qry
  simp only [B.hx, B.hq, ← EReal.coe_mul, ← coe_sum]

theorem kernel_head (c : Dev nD) (h : Fin 8) (i : Fin 256) (d : Fin 128) : headAt m c h i d = head x q k V (dhead c h) i d := by
  unfold headAt head Exchange.sc
  simp only [query_real B, B.hk, B.hv, factor_eq, dcol_head, ← EReal.coe_mul, ← coe_sum]
  refine congrArg₂ soft (funext fun j => congrArg _ ?_) rfl
  unfold score
  rw [Finset.sum_mul]
  exact Finset.sum_congr rfl fun e _ => by ring

theorem kernel_heads (c : Dev nD) (i : Fin 256) (a : Fin 1024) :
    heads m c (ix2 i a) = head x q k V (⟨(dcol c a).val / 128, by omega⟩ : Fin 64) i (⟨(dcol c a).val % 128, by omega⟩ : Fin 128) := by
  have ha : a = (⟨128 * (⟨a.val / 128, by omega⟩ : Fin 8).val + (⟨a.val % 128, by omega⟩ : Fin 128).val, by show 128 * (a.val / 128) + a.val % 128 < 1024; omega⟩ : Fin 1024) :=
    Fin.ext (show a.val = 128 * (a.val / 128) + a.val % 128 by omega)
  refine (congrArg (fun a => heads m c (ix2 i a)) ha).trans ((heads_apply m c _ i _).trans ((kernel_head B c _ i _).trans ?_))
  refine congrArg₂ (fun h d => head x q k V h i d) (Fin.ext ?_) (Fin.ext ?_)
  · show c.val * 8 + a.val / 128 = (c.val * 1024 + a.val) / 128; omega
  · show a.val % 128 = (c.val * 1024 + a.val) % 128; omega

theorem kernel_result (c : Dev nD) (i : Fin 256) (n : Fin 1024) : outAt m c (ix2 i n) = result x q k V O i n := by
  have hn : n = (⟨128 * (⟨n.val / 128, by omega⟩ : Fin 8).val + (⟨n.val % 128, by omega⟩ : Fin 128).val, by show 128 * (n.val / 128) + n.val % 128 < 1024; omega⟩ : Fin 1024) :=
    Fin.ext (show n.val = 128 * (n.val / 128) + n.val % 128 by omega)
  refine (congrArg (fun n => outAt m c (ix2 i n)) hn).trans ((outAt_apply m c _ i _).trans ?_)
  show @Eq EReal _ _
  unfold result
  rw [sum_dcol]
  refine Finset.sum_congr rfl fun d _ => ?_
  unfold share
  refine Finset.sum_congr rfl fun a _ => ?_
  exact congrArg₂ (fun (u v : EReal) => u * v) (kernel_heads B d i a) ((congrArg (fun n => argO m d (ix2 a n)) hn.symm).trans (B.ho d a n))

end
end

end Cert.Meet

end
-- ==== Proof.Finite.lean ====
/-
# 01_k — what the precondition says

A device's blocks of `x`, `Wq` and `K` hold real numbers.
-/
module

public import proofs.«01_k».proof.Defs
public import proofs.«01_k».proof.Pre_finite_KernelIdeal
public import proofs.«01_k».proof.Pre_finite_ReferenceIdeal
public import Idealize.ShloMosaic.Lib.Pointwise
public import Idealize.ShloMosaic.PureOps.Reduce

@[expose] public section

noncomputable section

namespace Cert.Pre_finite_KernelIdeal

open Idealize.ShloMosaic

instance facts : Facts where
  bcast_S_S256x1024 := by decide
  reducesTo_S256x1024_S_d0_1 := by decide
  h_S_ := by decide
  bcast_S_S1024x1024 := by decide
  reducesTo_S1024x1024_S_d0_1 := by decide
  bcast_S_S4096x1024 := by decide
  reducesTo_S4096x1024_S_d0_1 := by decide

theorem andi_one : ∀ c d : BitVec 1, IntOp.andi c d = 1#1 → c = 1#1 ∧ d = 1#1 := by decide

/-- A conjunction run over a list is one only if every member is. -/
theorem all_of_foldl {ι : Type} (x : ι → BitVec 1) : ∀ (l : List ι) (b : BitVec 1), l.foldl (fun r i => IntOp.andi r (x i)) b = 1#1 →
    b = 1#1 ∧ ∀ i ∈ l, x i = 1#1
  | [], b, h => ⟨h, fun _ hi => absurd hi List.not_mem_nil⟩
  | a :: l, b, h => by
    obtain ⟨h1, h2⟩ := all_of_foldl x l _ h
    have h3 := andi_one b (x a) h1
    refine ⟨h3.1, fun i hi => ?_⟩
    rcases List.mem_cons.1 hi with rfl | hi
    · exact h3.2
    · exact h2 i hi

/-- A conjunction over a whole array is one only if every element is. -/
theorem all_of_reduce {s : Shape} {axes : List (Fin s.rank)} (x : IVec s 1) (b : S_.Idx → BitVec 1) (h : s.ReducesTo axes S_) (hu : 0 < S_.numel) (j : S_.Idx)
    (hx : Host.reduce IntOp.andi x b h hu j = 1#1) (i : s.Idx) : x i = 1#1 := by
  rw [Host.reduce_eq_foldl] at hx
  refine (all_of_foldl x _ _ hx).2 i (List.mem_filter.2 ⟨List.mem_map.2 ⟨s.rowMajor i, List.mem_finRange _, Equiv.symm_apply_apply _ _⟩, ?_⟩)
  exact decide_eq_true (funext fun a => a.elim0)

theorem inf_bf16 : Ideal.ofBits .bf16 0x7F80#16 = ⊤ := by
  simp [Ideal.ofBits, Ideal.ieee]

/-- An extended real of which the absolute value is below infinity is real. -/
theorem real_of_abs (a : EReal) (h : max a (-a) < ⊤) : ∃ r : ℝ, a = (r : EReal) := by
  induction a with
  | bot => simp at h
  | top => simp at h
  | coe r => exact ⟨r, rfl⟩

theorem real_of_cmp {s : Shape} (x : FVec Ideal s .bf16) (h : S_.BroadcastsInDim s (![] : Fin 0 → Fin s.rank)) (i : s.Idx)
    (e : cmpf .olt (Host.absf x) (broadcastInDim s ![] h (constant S_ .bf16 0x7F80#16)) i = 1#1) : ∃ r : ℝ, x i = (r : EReal) := by
  refine real_of_abs (x i) ?_
  rw [← inf_bf16]
  by_contra hn
  have e' : BitVec.ofBool (decide (max (x i : EReal) (-(x i : EReal)) < Ideal.ofBits .bf16 0x7F80#16)) = 1#1 := e
  rw [decide_eq_false hn] at e'
  exact absurd e' (by decide)

/-- The precondition, on one device's blocks. -/
theorem real_of_fn (x : FVec Ideal S256x1024 .bf16) (wq wo : FVec Ideal S1024x1024 .bf16) (k v : FVec Ideal S4096x1024 .bf16)
    (h : fn (F := Ideal) x wq wo k v = fun _ => 1#1) :
    (∀ i, ∃ r : ℝ, x i = (r : EReal)) ∧ (∀ i, ∃ r : ℝ, wq i = (r : EReal)) ∧ ∀ i, ∃ r : ℝ, k i = (r : EReal) := by
  have h0 := congrFun h (Shape.Idx.first (s := S_) (by decide))
  unfold fn at h0
  obtain ⟨h1, h2⟩ := andi_one _ _ h0
  obtain ⟨h3, h4⟩ := andi_one _ _ h1
  exact ⟨fun i => real_of_cmp x _ i (all_of_reduce _ _ _ _ _ h3 i), fun i => real_of_cmp wq _ i (all_of_reduce _ _ _ _ _ h4 i),
    fun i => real_of_cmp k _ i (all_of_reduce _ _ _ _ _ h2 i)⟩

end Cert.Pre_finite_KernelIdeal

namespace Cert.Pre_finite_ReferenceIdeal

open Idealize.ShloMosaic

instance facts : Facts where
  bcast_S_S256x1024 := by decide
  reducesTo_S256x1024_S_d0_1 := by decide
  h_S_ := by decide
  bcast_S_S1024x8192 := by decide
  reducesTo_S1024x8192_S_d0_1 := by decide
  bcast_S_S4096x8192 := by decide
  reducesTo_S4096x8192_S_d0_1 := by decide

end Cert.Pre_finite_ReferenceIdeal

end
-- ==== Proof.Agree.lean ====
/-
# 01_k — the claim of values

Both programs run to one result, where the devices' arrays are their blocks of the reference's.
-/
module

public import proofs.«01_k».proof.Proof.Meet
public import proofs.«01_k».proof.Proof.Finite
public import proofs.«01_k».proof.Proof.Frames

@[expose] public section

noncomputable section

namespace Cert.Meet

open Cert.KernelIdeal Cert.KernelIdeal.Gen Cert.Exchange

open Idealize.ShloMosaic
open Idealize.ShloMosaic.TcCoe
open Idealize.SL Idealize.SL.Sem

/-- A block cut along the columns, at an index; -/
theorem block_cols {α : Type} (r : ℕ) (v : (⟨2, ![r, 8192]⟩ : Shape).Idx → α) (h) (c : Fin 8) (a : Fin r) (e : Fin 1024) :
    Layout.block ⟨2, ![r, 1024]⟩ ⟨2, ![r, 8192]⟩ 1 8 c v h (ix2 a e) = v (ix2 a (dcol c e)) :=
  congrArg v (funext fun b => match b with
    | ⟨0, _⟩ => rfl
    | ⟨1, _⟩ => rfl)

/-- and one cut along the rows. -/
theorem block_rows {α : Type} (v : SO.Idx → α) (h) (c : Fin 8) (a n : Fin 1024) :
    Layout.block ⟨2, ![1024, 1024]⟩ ⟨2, ![8192, 1024]⟩ 0 8 c v h (ix2 a n) = v (ix2 (dcol c a) n) :=
  congrArg v (funext fun b => match b with
    | ⟨0, _⟩ => rfl
    | ⟨1, _⟩ => rfl)

/-- An array is real where each device's block of its columns is. -/
theorem real_of_blocks (r : ℕ) (v : (⟨2, ![r, 8192]⟩ : Shape).Idx → EReal) (h)
    (hr : ∀ (c : Fin 8) i, ∃ y : ℝ, Layout.block ⟨2, ![r, 1024]⟩ ⟨2, ![r, 8192]⟩ 1 8 c v h i = (y : EReal)) (i : (⟨2, ![r, 8192]⟩ : Shape).Idx) :
    ∃ y : ℝ, v i = (y : EReal) := by
  have hi : (i 1).val < 8192 := (i 1).isLt
  obtain ⟨y, hy⟩ := hr ⟨(i 1).val / 1024, by omega⟩ (ix2 (i 0 : Fin r) (⟨(i 1).val % 1024, by omega⟩ : Fin 1024))
  refine ⟨y, Eq.trans (congrArg v (funext fun b => ?_)) hy⟩
  match b with
  | ⟨0, _⟩ => rfl
  | ⟨1, _⟩ => exact Fin.ext (show (i 1).val = (i 1).val / 1024 * 1024 + (i 1).val % 1024 by omega)

theorem agree : Cert.algebraic_KernelIdeal_ReferenceIdeal_pre_finite_KernelIdeal := by
  intro m g m' g' hpre harg
  have hf := fun c => Cert.Pre_finite_KernelIdeal.real_of_fn _ _ _ _ _ (hpre c)
  have hX : ∀ i, ∃ y : ℝ, Plain.argX m' 0 i = (y : EReal) := fun i => by
    obtain ⟨y, hy⟩ := (hf 0).1 i
    exact ⟨y, (congrFun (harg 0).1 i).symm.trans hy⟩
  have hQ : ∀ i, ∃ y : ℝ, Plain.argQ m' 0 i = (y : EReal) := real_of_blocks 1024 _ (by decide) fun c i => by
    obtain ⟨y, hy⟩ := (hf c).2.1 i
    exact ⟨y, (congrFun (harg c).2.1 i).symm.trans hy⟩
  have hK : ∀ i, ∃ y : ℝ, Plain.argK m' 0 i = (y : EReal) := real_of_blocks 4096 _ (by decide) fun c i => by
    obtain ⟨y, hy⟩ := (hf c).2.2 i
    exact ⟨y, (congrFun (harg c).2.2.2.1 i).symm.trans hy⟩
  choose x hx using hX
  choose q hq using hQ
  choose k hk using hK
  have B : Blocks m x q k (Plain.argV m' 0) (Plain.argO m' 0) :=
    { hx := fun c i => (congrFun (harg c).1 i).trans (hx i)
      hq := fun c a e => (congrFun (harg c).2.1 _).trans ((block_cols 1024 _ _ c a e).trans (hq _))
      ho := fun c a n => (congrFun (harg c).2.2.1 _).trans (block_rows _ _ c a n)
      hk := fun c j e => (congrFun (harg c).2.2.2.1 _).trans ((block_cols 4096 _ _ c j e).trans (hk _))
      hv := fun c j e => (congrFun (harg c).2.2.2.2 _).trans (block_cols 4096 _ _ c j e) }
  have hres : ∀ c : Dev nD, outAt m c = Cert.ReferenceIdeal.Value.res_main_v120 m' 0 := fun c => by
    rw [Plain.res_eq]
    funext y
    have hy : y = ix2 (y 0 : Fin 256) (y 1 : Fin 1024) := funext fun b => match b with
      | ⟨0, _⟩ => rfl
      | ⟨1, _⟩ => rfl
    rw [hy]
    exact (kernel_result B c _ _).trans (reference_result _ _ hx hq hk _ _).symm
  refine ⟨Cert.ReferenceIdeal.Value.res_main_v120 m' 0, ?_, ?_⟩
  · exact (θ_run defs _ _).mono (fun _ h c =>
      ⟨(h.1 c (5 : Fin 6)).trans ((finalA_out m g c).trans (hres c)),
        (h.1 c (0 : Fin 6)).trans (finalA_in m g c 0 rfl), (h.1 c (1 : Fin 6)).trans (finalA_in m g c 1 rfl),
        (h.1 c (2 : Fin 6)).trans (finalA_in m g c 2 rfl), (h.1 c (3 : Fin 6)).trans (finalA_in m g c 3 rfl),
        (h.1 c (4 : Fin 6)).trans (finalA_in m g c 4 rfl)⟩) (run_main m g)
  · exact (θ_run Cert.ReferenceIdeal.defs _ _).mono (fun _ h => h 0) (Cert.ReferenceIdeal.Value.run (F := Ideal) m' g')

end Cert.Meet

end
-- ==== Proof.lean ====
module

public import proofs.«01_k».proof.Defs
public import proofs.«01_k».proof.Proof.Frames
public import proofs.«01_k».proof.Proof.Agree

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Pre_finite_KernelIdeal.facts, Cert.Pre_finite_ReferenceIdeal.facts,
    Cert.Exchange.frame_kernel, Cert.Exchange.frame_ideal, fun m g _ => Cert.Exchange.frame_ideal m g trivial,
    Cert.Exchange.frame_reference, fun m g _ => Cert.Exchange.frame_reference m g trivial, trivial, Cert.Meet.agree⟩

end Cert.Proof

end
